-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![32768, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1x1024 : Shape := ⟨2, ![1, 1024]⟩
abbrev S15x1x1024 : Shape := ⟨3, ![15, 1, 1024]⟩
abbrev S15 : Shape := ⟨1, ![15]⟩
abbrev S_ : Shape := ⟨0, ![]⟩
abbrev S1024x1024 : Shape := ⟨2, ![1024, 1024]⟩
abbrev S512x1024 : Shape := ⟨2, ![512, 1024]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S4x1024 : Shape := ⟨2, ![4, 1024]⟩
abbrev S2x1024 : Shape := ⟨2, ![2, 1024]⟩
abbrev S2047x1024 : Shape := ⟨2, ![2047, 1024]⟩
abbrev S2046x1024 : Shape := ⟨2, ![2046, 1024]⟩
abbrev S2044x1024 : Shape := ⟨2, ![2044, 1024]⟩
abbrev S2040x1024 : Shape := ⟨2, ![2040, 1024]⟩
abbrev S2032x1024 : Shape := ⟨2, ![2032, 1024]⟩
abbrev S2016x1024 : Shape := ⟨2, ![2016, 1024]⟩
abbrev S1984x1024 : Shape := ⟨2, ![1984, 1024]⟩
abbrev S1920x1024 : Shape := ⟨2, ![1920, 1024]⟩
abbrev S1792x1024 : Shape := ⟨2, ![1792, 1024]⟩
abbrev S1 : Shape := ⟨1, ![1]⟩
abbrev S1x1x1024 : Shape := ⟨3, ![1, 1, 1024]⟩
abbrev S1536x1024 : Shape := ⟨2, ![1536, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S15x1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_147 : BitVec 32 := 1#32
  let v273 : BitVec 32 := Scalar.addi v2 c1_i32_147
  let c16_i32_148 : BitVec 32 := 16#32
  let v274 : BitVec 1 := Scalar.cmpi .slt v273 c16_i32_148
  let v275 : BitVec 32 := Scalar.extui v274
  let c0_i32_149 : BitVec 32 := 0#32
  let v276 : BitVec 1 := Scalar.cmpi .ne v275 c0_i32_149
  v276

def k0_dev16 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_318 : BitVec 32 := 1#32
  let v525 : BitVec 32 := Scalar.addi v2 c1_i32_318
  let c16_i32_319 : BitVec 32 := 16#32
  let c0_i32_320 : BitVec 32 := 0#32
  let v526 : BitVec 1 := Scalar.cmpi .eq c16_i32_319 c0_i32_320
  let c1_i32_321 : BitVec 32 := 1#32
  let v527 : BitVec 32 := Scalar.select v526 c1_i32_321 c16_i32_319
  let v528 : BitVec 32 := Scalar.remsi v525 v527
  let c0_i32_323 : BitVec 32 := 0#32
  let v530 : BitVec 1 := Scalar.cmpi .slt v528 c0_i32_323
  let c0_i32_324 : BitVec 32 := 0#32
  let v531 : BitVec 1 := Scalar.cmpi .slt v527 c0_i32_324
  let v532 : BitVec 1 := Scalar.xori v530 v531
  let c0_i32_322 : BitVec 32 := 0#32
  let v529 : BitVec 1 := Scalar.cmpi .ne v528 c0_i32_322
  let v533 : BitVec 1 := Scalar.andi v532 v529
  let v534 : BitVec 32 := Scalar.addi v528 v527
  let v535 : BitVec 32 := Scalar.select v533 v534 v528
  let c1_i32_328 : BitVec 32 := 1#32
  let v536 : BitVec 32 := Scalar.muli v535 c1_i32_328
  let v537 : BitVec 32 := Scalar.addi c0_i32_329 v536
  v537.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_150 : BitVec 32 := 2#32
  let v277 : BitVec 32 := Scalar.addi v2 c2_i32_150
  let c16_i32_151 : BitVec 32 := 16#32
  let v278 : BitVec 1 := Scalar.cmpi .slt v277 c16_i32_151
  let v279 : BitVec 32 := Scalar.extui v278
  let c0_i32_152 : BitVec 32 := 0#32
  let v280 : BitVec 1 := Scalar.cmpi .ne v279 c0_i32_152
  v280

def k0_dev17 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_318 : BitVec 32 := 2#32
  let v525 : BitVec 32 := Scalar.addi v2 c2_i32_318
  let c16_i32_319 : BitVec 32 := 16#32
  let c0_i32_320 : BitVec 32 := 0#32
  let v526 : BitVec 1 := Scalar.cmpi .eq c16_i32_319 c0_i32_320
  let c1_i32_321 : BitVec 32 := 1#32
  let v527 : BitVec 32 := Scalar.select v526 c1_i32_321 c16_i32_319
  let v528 : BitVec 32 := Scalar.remsi v525 v527
  let c0_i32_323 : BitVec 32 := 0#32
  let v530 : BitVec 1 := Scalar.cmpi .slt v528 c0_i32_323
  let c0_i32_324 : BitVec 32 := 0#32
  let v531 : BitVec 1 := Scalar.cmpi .slt v527 c0_i32_324
  let v532 : BitVec 1 := Scalar.xori v530 v531
  let c0_i32_322 : BitVec 32 := 0#32
  let v529 : BitVec 1 := Scalar.cmpi .ne v528 c0_i32_322
  let v533 : BitVec 1 := Scalar.andi v532 v529
  let v534 : BitVec 32 := Scalar.addi v528 v527
  let v535 : BitVec 32 := Scalar.select v533 v534 v528
  let c1_i32_328 : BitVec 32 := 1#32
  let v536 : BitVec 32 := Scalar.muli v535 c1_i32_328
  let v537 : BitVec 32 := Scalar.addi c0_i32_329 v536
  v537.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_153 : BitVec 32 := 3#32
  let v281 : BitVec 32 := Scalar.addi v2 c3_i32_153
  let c16_i32_154 : BitVec 32 := 16#32
  let v282 : BitVec 1 := Scalar.cmpi .slt v281 c16_i32_154
  let v283 : BitVec 32 := Scalar.extui v282
  let c0_i32_155 : BitVec 32 := 0#32
  let v284 : BitVec 1 := Scalar.cmpi .ne v283 c0_i32_155
  v284

def k0_dev18 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_318 : BitVec 32 := 3#32
  let v525 : BitVec 32 := Scalar.addi v2 c3_i32_318
  let c16_i32_319 : BitVec 32 := 16#32
  let c0_i32_320 : BitVec 32 := 0#32
  let v526 : BitVec 1 := Scalar.cmpi .eq c16_i32_319 c0_i32_320
  let c1_i32_321 : BitVec 32 := 1#32
  let v527 : BitVec 32 := Scalar.select v526 c1_i32_321 c16_i32_319
  let v528 : BitVec 32 := Scalar.remsi v525 v527
  let c0_i32_323 : BitVec 32 := 0#32
  let v530 : BitVec 1 := Scalar.cmpi .slt v528 c0_i32_323
  let c0_i32_324 : BitVec 32 := 0#32
  let v531 : BitVec 1 := Scalar.cmpi .slt v527 c0_i32_324
  let v532 : BitVec 1 := Scalar.xori v530 v531
  let c0_i32_322 : BitVec 32 := 0#32
  let v529 : BitVec 1 := Scalar.cmpi .ne v528 c0_i32_322
  let v533 : BitVec 1 := Scalar.andi v532 v529
  let v534 : BitVec 32 := Scalar.addi v528 v527
  let v535 : BitVec 32 := Scalar.select v533 v534 v528
  let c1_i32_328 : BitVec 32 := 1#32
  let v536 : BitVec 32 := Scalar.muli v535 c1_i32_328
  let v537 : BitVec 32 := Scalar.addi c0_i32_329 v536
  v537.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_156 : BitVec 32 := 4#32
  let v285 : BitVec 32 := Scalar.addi v2 c4_i32_156
  let c16_i32_157 : BitVec 32 := 16#32
  let v286 : BitVec 1 := Scalar.cmpi .slt v285 c16_i32_157
  let v287 : BitVec 32 := Scalar.extui v286
  let c0_i32_158 : BitVec 32 := 0#32
  let v288 : BitVec 1 := Scalar.cmpi .ne v287 c0_i32_158
  v288

def k0_dev19 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_318 : BitVec 32 := 4#32
  let v525 : BitVec 32 := Scalar.addi v2 c4_i32_318
  let c16_i32_319 : BitVec 32 := 16#32
  let c0_i32_320 : BitVec 32 := 0#32
  let v526 : BitVec 1 := Scalar.cmpi .eq c16_i32_319 c0_i32_320
  let c1_i32_321 : BitVec 32 := 1#32
  let v527 : BitVec 32 := Scalar.select v526 c1_i32_321 c16_i32_319
  let v528 : BitVec 32 := Scalar.remsi v525 v527
  let c0_i32_323 : BitVec 32 := 0#32
  let v530 : BitVec 1 := Scalar.cmpi .slt v528 c0_i32_323
  let c0_i32_324 : BitVec 32 := 0#32
  let v531 : BitVec 1 := Scalar.cmpi .slt v527 c0_i32_324
  let v532 : BitVec 1 := Scalar.xori v530 v531
  let c0_i32_322 : BitVec 32 := 0#32
  let v529 : BitVec 1 := Scalar.cmpi .ne v528 c0_i32_322
  let v533 : BitVec 1 := Scalar.andi v532 v529
  let v534 : BitVec 32 := Scalar.addi v528 v527
  let v535 : BitVec 32 := Scalar.select v533 v534 v528
  let c1_i32_328 : BitVec 32 := 1#32
  let v536 : BitVec 32 := Scalar.muli v535 c1_i32_328
  let v537 : BitVec 32 := Scalar.addi c0_i32_329 v536
  v537.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_159 : BitVec 32 := 5#32
  let v289 : BitVec 32 := Scalar.addi v2 c5_i32_159
  let c16_i32_160 : BitVec 32 := 16#32
  let v290 : BitVec 1 := Scalar.cmpi .slt v289 c16_i32_160
  let v291 : BitVec 32 := Scalar.extui v290
  let c0_i32_161 : BitVec 32 := 0#32
  let v292 : BitVec 1 := Scalar.cmpi .ne v291 c0_i32_161
  v292

def k0_dev20 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_318 : BitVec 32 := 5#32
  let v525 : BitVec 32 := Scalar.addi v2 c5_i32_318
  let c16_i32_319 : BitVec 32 := 16#32
  let c0_i32_320 : BitVec 32 := 0#32
  let v526 : BitVec 1 := Scalar.cmpi .eq c16_i32_319 c0_i32_320
  let c1_i32_321 : BitVec 32 := 1#32
  let v527 : BitVec 32 := Scalar.select v526 c1_i32_321 c16_i32_319
  let v528 : BitVec 32 := Scalar.remsi v525 v527
  let c0_i32_323 : BitVec 32 := 0#32
  let v530 : BitVec 1 := Scalar.cmpi .slt v528 c0_i32_323
  let c0_i32_324 : BitVec 32 := 0#32
  let v531 : BitVec 1 := Scalar.cmpi .slt v527 c0_i32_324
  let v532 : BitVec 1 := Scalar.xori v530 v531
  let c0_i32_322 : BitVec 32 := 0#32
  let v529 : BitVec 1 := Scalar.cmpi .ne v528 c0_i32_322
  let v533 : BitVec 1 := Scalar.andi v532 v529
  let v534 : BitVec 32 := Scalar.addi v528 v527
  let v535 : BitVec 32 := Scalar.select v533 v534 v528
  let c1_i32_328 : BitVec 32 := 1#32
  let v536 : BitVec 32 := Scalar.muli v535 c1_i32_328
  let v537 : BitVec 32 := Scalar.addi c0_i32_329 v536
  v537.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_162 : BitVec 32 := 6#32
  let v293 : BitVec 32 := Scalar.addi v2 c6_i32_162
  let c16_i32_163 : BitVec 32 := 16#32
  let v294 : BitVec 1 := Scalar.cmpi .slt v293 c16_i32_163
  let v295 : BitVec 32 := Scalar.extui v294
  let c0_i32_164 : BitVec 32 := 0#32
  let v296 : BitVec 1 := Scalar.cmpi .ne v295 c0_i32_164
  v296

def k0_dev21 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_318 : BitVec 32 := 6#32
  let v525 : BitVec 32 := Scalar.addi v2 c6_i32_318
  let c16_i32_319 : BitVec 32 := 16#32
  let c0_i32_320 : BitVec 32 := 0#32
  let v526 : BitVec 1 := Scalar.cmpi .eq c16_i32_319 c0_i32_320
  let c1_i32_321 : BitVec 32 := 1#32
  let v527 : BitVec 32 := Scalar.select v526 c1_i32_321 c16_i32_319
  let v528 : BitVec 32 := Scalar.remsi v525 v527
  let c0_i32_323 : BitVec 32 := 0#32
  let v530 : BitVec 1 := Scalar.cmpi .slt v528 c0_i32_323
  let c0_i32_324 : BitVec 32 := 0#32
  let v531 : BitVec 1 := Scalar.cmpi .slt v527 c0_i32_324
  let v532 : BitVec 1 := Scalar.xori v530 v531
  let c0_i32_322 : BitVec 32 := 0#32
  let v529 : BitVec 1 := Scalar.cmpi .ne v528 c0_i32_322
  let v533 : BitVec 1 := Scalar.andi v532 v529
  let v534 : BitVec 32 := Scalar.addi v528 v527
  let v535 : BitVec 32 := Scalar.select v533 v534 v528
  let c1_i32_328 : BitVec 32 := 1#32
  let v536 : BitVec 32 := Scalar.muli v535 c1_i32_328
  let v537 : BitVec 32 := Scalar.addi c0_i32_329 v536
  v537.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_165 : BitVec 32 := 7#32
  let v297 : BitVec 32 := Scalar.addi v2 c7_i32_165
  let c16_i32_166 : BitVec 32 := 16#32
  let v298 : BitVec 1 := Scalar.cmpi .slt v297 c16_i32_166
  let v299 : BitVec 32 := Scalar.extui v298
  let c0_i32_167 : BitVec 32 := 0#32
  let v300 : BitVec 1 := Scalar.cmpi .ne v299 c0_i32_167
  v300

def k0_dev22 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_318 : BitVec 32 := 7#32
  let v525 : BitVec 32 := Scalar.addi v2 c7_i32_318
  let c16_i32_319 : BitVec 32 := 16#32
  let c0_i32_320 : BitVec 32 := 0#32
  let v526 : BitVec 1 := Scalar.cmpi .eq c16_i32_319 c0_i32_320
  let c1_i32_321 : BitVec 32 := 1#32
  let v527 : BitVec 32 := Scalar.select v526 c1_i32_321 c16_i32_319
  let v528 : BitVec 32 := Scalar.remsi v525 v527
  let c0_i32_323 : BitVec 32 := 0#32
  let v530 : BitVec 1 := Scalar.cmpi .slt v528 c0_i32_323
  let c0_i32_324 : BitVec 32 := 0#32
  let v531 : BitVec 1 := Scalar.cmpi .slt v527 c0_i32_324
  let v532 : BitVec 1 := Scalar.xori v530 v531
  let c0_i32_322 : BitVec 32 := 0#32
  let v529 : BitVec 1 := Scalar.cmpi .ne v528 c0_i32_322
  let v533 : BitVec 1 := Scalar.andi v532 v529
  let v534 : BitVec 32 := Scalar.addi v528 v527
  let v535 : BitVec 32 := Scalar.select v533 v534 v528
  let c1_i32_328 : BitVec 32 := 1#32
  let v536 : BitVec 32 := Scalar.muli v535 c1_i32_328
  let v537 : BitVec 32 := Scalar.addi c0_i32_329 v536
  v537.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_168 : BitVec 32 := 8#32
  let v301 : BitVec 32 := Scalar.addi v2 c8_i32_168
  let c16_i32_169 : BitVec 32 := 16#32
  let v302 : BitVec 1 := Scalar.cmpi .slt v301 c16_i32_169
  let v303 : BitVec 32 := Scalar.extui v302
  let c0_i32_170 : BitVec 32 := 0#32
  let v304 : BitVec 1 := Scalar.cmpi .ne v303 c0_i32_170
  v304

def k0_dev23 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_318 : BitVec 32 := 8#32
  let v525 : BitVec 32 := Scalar.addi v2 c8_i32_318
  let c16_i32_319 : BitVec 32 := 16#32
  let c0_i32_320 : BitVec 32 := 0#32
  let v526 : BitVec 1 := Scalar.cmpi .eq c16_i32_319 c0_i32_320
  let c1_i32_321 : BitVec 32 := 1#32
  let v527 : BitVec 32 := Scalar.select v526 c1_i32_321 c16_i32_319
  let v528 : BitVec 32 := Scalar.remsi v525 v527
  let c0_i32_323 : BitVec 32 := 0#32
  let v530 : BitVec 1 := Scalar.cmpi .slt v528 c0_i32_323
  let c0_i32_324 : BitVec 32 := 0#32
  let v531 : BitVec 1 := Scalar.cmpi .slt v527 c0_i32_324
  let v532 : BitVec 1 := Scalar.xori v530 v531
  let c0_i32_322 : BitVec 32 := 0#32
  let v529 : BitVec 1 := Scalar.cmpi .ne v528 c0_i32_322
  let v533 : BitVec 1 := Scalar.andi v532 v529
  let v534 : BitVec 32 := Scalar.addi v528 v527
  let v535 : BitVec 32 := Scalar.select v533 v534 v528
  let c1_i32_328 : BitVec 32 := 1#32
  let v536 : BitVec 32 := Scalar.muli v535 c1_i32_328
  let v537 : BitVec 32 := Scalar.addi c0_i32_329 v536
  v537.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_171 : BitVec 32 := 9#32
  let v305 : BitVec 32 := Scalar.addi v2 c9_i32_171
  let c16_i32_172 : BitVec 32 := 16#32
  let v306 : BitVec 1 := Scalar.cmpi .slt v305 c16_i32_172
  let v307 : BitVec 32 := Scalar.extui v306
  let c0_i32_173 : BitVec 32 := 0#32
  let v308 : BitVec 1 := Scalar.cmpi .ne v307 c0_i32_173
  v308

def k0_dev24 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_318 : BitVec 32 := 9#32
  let v525 : BitVec 32 := Scalar.addi v2 c9_i32_318
  let c16_i32_319 : BitVec 32 := 16#32
  let c0_i32_320 : BitVec 32 := 0#32
  let v526 : BitVec 1 := Scalar.cmpi .eq c16_i32_319 c0_i32_320
  let c1_i32_321 : BitVec 32 := 1#32
  let v527 : BitVec 32 := Scalar.select v526 c1_i32_321 c16_i32_319
  let v528 : BitVec 32 := Scalar.remsi v525 v527
  let c0_i32_323 : BitVec 32 := 0#32
  let v530 : BitVec 1 := Scalar.cmpi .slt v528 c0_i32_323
  let c0_i32_324 : BitVec 32 := 0#32
  let v531 : BitVec 1 := Scalar.cmpi .slt v527 c0_i32_324
  let v532 : BitVec 1 := Scalar.xori v530 v531
  let c0_i32_322 : BitVec 32 := 0#32
  let v529 : BitVec 1 := Scalar.cmpi .ne v528 c0_i32_322
  let v533 : BitVec 1 := Scalar.andi v532 v529
  let v534 : BitVec 32 := Scalar.addi v528 v527
  let v535 : BitVec 32 := Scalar.select v533 v534 v528
  let c1_i32_328 : BitVec 32 := 1#32
  let v536 : BitVec 32 := Scalar.muli v535 c1_i32_328
  let v537 : BitVec 32 := Scalar.addi c0_i32_329 v536
  v537.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_174 : BitVec 32 := 10#32
  let v309 : BitVec 32 := Scalar.addi v2 c10_i32_174
  let c16_i32_175 : BitVec 32 := 16#32
  let v310 : BitVec 1 := Scalar.cmpi .slt v309 c16_i32_175
  let v311 : BitVec 32 := Scalar.extui v310
  let c0_i32_176 : BitVec 32 := 0#32
  let v312 : BitVec 1 := Scalar.cmpi .ne v311 c0_i32_176
  v312

def k0_dev25 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_318 : BitVec 32 := 10#32
  let v525 : BitVec 32 := Scalar.addi v2 c10_i32_318
  let c16_i32_319 : BitVec 32 := 16#32
  let c0_i32_320 : BitVec 32 := 0#32
  let v526 : BitVec 1 := Scalar.cmpi .eq c16_i32_319 c0_i32_320
  let c1_i32_321 : BitVec 32 := 1#32
  let v527 : BitVec 32 := Scalar.select v526 c1_i32_321 c16_i32_319
  let v528 : BitVec 32 := Scalar.remsi v525 v527
  let c0_i32_323 : BitVec 32 := 0#32
  let v530 : BitVec 1 := Scalar.cmpi .slt v528 c0_i32_323
  let c0_i32_324 : BitVec 32 := 0#32
  let v531 : BitVec 1 := Scalar.cmpi .slt v527 c0_i32_324
  let v532 : BitVec 1 := Scalar.xori v530 v531
  let c0_i32_322 : BitVec 32 := 0#32
  let v529 : BitVec 1 := Scalar.cmpi .ne v528 c0_i32_322
  let v533 : BitVec 1 := Scalar.andi v532 v529
  let v534 : BitVec 32 := Scalar.addi v528 v527
  let v535 : BitVec 32 := Scalar.select v533 v534 v528
  let c1_i32_328 : BitVec 32 := 1#32
  let v536 : BitVec 32 := Scalar.muli v535 c1_i32_328
  let v537 : BitVec 32 := Scalar.addi c0_i32_329 v536
  v537.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_177 : BitVec 32 := 11#32
  let v313 : BitVec 32 := Scalar.addi v2 c11_i32_177
  let c16_i32_178 : BitVec 32 := 16#32
  let v314 : BitVec 1 := Scalar.cmpi .slt v313 c16_i32_178
  let v315 : BitVec 32 := Scalar.extui v314
  let c0_i32_179 : BitVec 32 := 0#32
  let v316 : BitVec 1 := Scalar.cmpi .ne v315 c0_i32_179
  v316

def k0_dev26 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_318 : BitVec 32 := 11#32
  let v525 : BitVec 32 := Scalar.addi v2 c11_i32_318
  let c16_i32_319 : BitVec 32 := 16#32
  let c0_i32_320 : BitVec 32 := 0#32
  let v526 : BitVec 1 := Scalar.cmpi .eq c16_i32_319 c0_i32_320
  let c1_i32_321 : BitVec 32 := 1#32
  let v527 : BitVec 32 := Scalar.select v526 c1_i32_321 c16_i32_319
  let v528 : BitVec 32 := Scalar.remsi v525 v527
  let c0_i32_323 : BitVec 32 := 0#32
  let v530 : BitVec 1 := Scalar.cmpi .slt v528 c0_i32_323
  let c0_i32_324 : BitVec 32 := 0#32
  let v531 : BitVec 1 := Scalar.cmpi .slt v527 c0_i32_324
  let v532 : BitVec 1 := Scalar.xori v530 v531
  let c0_i32_322 : BitVec 32 := 0#32
  let v529 : BitVec 1 := Scalar.cmpi .ne v528 c0_i32_322
  let v533 : BitVec 1 := Scalar.andi v532 v529
  let v534 : BitVec 32 := Scalar.addi v528 v527
  let v535 : BitVec 32 := Scalar.select v533 v534 v528
  let c1_i32_328 : BitVec 32 := 1#32
  let v536 : BitVec 32 := Scalar.muli v535 c1_i32_328
  let v537 : BitVec 32 := Scalar.addi c0_i32_329 v536
  v537.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_180 : BitVec 32 := 12#32
  let v317 : BitVec 32 := Scalar.addi v2 c12_i32_180
  let c16_i32_181 : BitVec 32 := 16#32
  let v318 : BitVec 1 := Scalar.cmpi .slt v317 c16_i32_181
  let v319 : BitVec 32 := Scalar.extui v318
  let c0_i32_182 : BitVec 32 := 0#32
  let v320 : BitVec 1 := Scalar.cmpi .ne v319 c0_i32_182
  v320

def k0_dev27 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_318 : BitVec 32 := 12#32
  let v525 : BitVec 32 := Scalar.addi v2 c12_i32_318
  let c16_i32_319 : BitVec 32 := 16#32
  let c0_i32_320 : BitVec 32 := 0#32
  let v526 : BitVec 1 := Scalar.cmpi .eq c16_i32_319 c0_i32_320
  let c1_i32_321 : BitVec 32 := 1#32
  let v527 : BitVec 32 := Scalar.select v526 c1_i32_321 c16_i32_319
  let v528 : BitVec 32 := Scalar.remsi v525 v527
  let c0_i32_323 : BitVec 32 := 0#32
  let v530 : BitVec 1 := Scalar.cmpi .slt v528 c0_i32_323
  let c0_i32_324 : BitVec 32 := 0#32
  let v531 : BitVec 1 := Scalar.cmpi .slt v527 c0_i32_324
  let v532 : BitVec 1 := Scalar.xori v530 v531
  let c0_i32_322 : BitVec 32 := 0#32
  let v529 : BitVec 1 := Scalar.cmpi .ne v528 c0_i32_322
  let v533 : BitVec 1 := Scalar.andi v532 v529
  let v534 : BitVec 32 := Scalar.addi v528 v527
  let v535 : BitVec 32 := Scalar.select v533 v534 v528
  let c1_i32_328 : BitVec 32 := 1#32
  let v536 : BitVec 32 := Scalar.muli v535 c1_i32_328
  let v537 : BitVec 32 := Scalar.addi c0_i32_329 v536
  v537.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_183 : BitVec 32 := 13#32
  let v321 : BitVec 32 := Scalar.addi v2 c13_i32_183
  let c16_i32_184 : BitVec 32 := 16#32
  let v322 : BitVec 1 := Scalar.cmpi .slt v321 c16_i32_184
  let v323 : BitVec 32 := Scalar.extui v322
  let c0_i32_185 : BitVec 32 := 0#32
  let v324 : BitVec 1 := Scalar.cmpi .ne v323 c0_i32_185
  v324

def k0_dev28 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_318 : BitVec 32 := 13#32
  let v525 : BitVec 32 := Scalar.addi v2 c13_i32_318
  let c16_i32_319 : BitVec 32 := 16#32
  let c0_i32_320 : BitVec 32 := 0#32
  let v526 : BitVec 1 := Scalar.cmpi .eq c16_i32_319 c0_i32_320
  let c1_i32_321 : BitVec 32 := 1#32
  let v527 : BitVec 32 := Scalar.select v526 c1_i32_321 c16_i32_319
  let v528 : BitVec 32 := Scalar.remsi v525 v527
  let c0_i32_323 : BitVec 32 := 0#32
  let v530 : BitVec 1 := Scalar.cmpi .slt v528 c0_i32_323
  let c0_i32_324 : BitVec 32 := 0#32
  let v531 : BitVec 1 := Scalar.cmpi .slt v527 c0_i32_324
  let v532 : BitVec 1 := Scalar.xori v530 v531
  let c0_i32_322 : BitVec 32 := 0#32
  let v529 : BitVec 1 := Scalar.cmpi .ne v528 c0_i32_322
  let v533 : BitVec 1 := Scalar.andi v532 v529
  let v534 : BitVec 32 := Scalar.addi v528 v527
  let v535 : BitVec 32 := Scalar.select v533 v534 v528
  let c1_i32_328 : BitVec 32 := 1#32
  let v536 : BitVec 32 := Scalar.muli v535 c1_i32_328
  let v537 : BitVec 32 := Scalar.addi c0_i32_329 v536
  v537.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_186 : BitVec 32 := 14#32
  let v325 : BitVec 32 := Scalar.addi v2 c14_i32_186
  let c16_i32_187 : BitVec 32 := 16#32
  let v326 : BitVec 1 := Scalar.cmpi .slt v325 c16_i32_187
  let v327 : BitVec 32 := Scalar.extui v326
  let c0_i32_188 : BitVec 32 := 0#32
  let v328 : BitVec 1 := Scalar.cmpi .ne v327 c0_i32_188
  v328

def k0_dev29 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_318 : BitVec 32 := 14#32
  let v525 : BitVec 32 := Scalar.addi v2 c14_i32_318
  let c16_i32_319 : BitVec 32 := 16#32
  let c0_i32_320 : BitVec 32 := 0#32
  let v526 : BitVec 1 := Scalar.cmpi .eq c16_i32_319 c0_i32_320
  let c1_i32_321 : BitVec 32 := 1#32
  let v527 : BitVec 32 := Scalar.select v526 c1_i32_321 c16_i32_319
  let v528 : BitVec 32 := Scalar.remsi v525 v527
  let c0_i32_323 : BitVec 32 := 0#32
  let v530 : BitVec 1 := Scalar.cmpi .slt v528 c0_i32_323
  let c0_i32_324 : BitVec 32 := 0#32
  let v531 : BitVec 1 := Scalar.cmpi .slt v527 c0_i32_324
  let v532 : BitVec 1 := Scalar.xori v530 v531
  let c0_i32_322 : BitVec 32 := 0#32
  let v529 : BitVec 1 := Scalar.cmpi .ne v528 c0_i32_322
  let v533 : BitVec 1 := Scalar.andi v532 v529
  let v534 : BitVec 32 := Scalar.addi v528 v527
  let v535 : BitVec 32 := Scalar.select v533 v534 v528
  let c1_i32_328 : BitVec 32 := 1#32
  let v536 : BitVec 32 := Scalar.muli v535 c1_i32_328
  let v537 : BitVec 32 := Scalar.addi c0_i32_329 v536
  v537.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_189 : BitVec 32 := 15#32
  let v329 : BitVec 32 := Scalar.addi v2 c15_i32_189
  let c16_i32_190 : BitVec 32 := 16#32
  let v330 : BitVec 1 := Scalar.cmpi .slt v329 c16_i32_190
  let v331 : BitVec 32 := Scalar.extui v330
  let c0_i32_191 : BitVec 32 := 0#32
  let v332 : BitVec 1 := Scalar.cmpi .ne v331 c0_i32_191
  v332

def k0_dev30 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_318 : BitVec 32 := 15#32
  let v525 : BitVec 32 := Scalar.addi v2 c15_i32_318
  let c16_i32_319 : BitVec 32 := 16#32
  let c0_i32_320 : BitVec 32 := 0#32
  let v526 : BitVec 1 := Scalar.cmpi .eq c16_i32_319 c0_i32_320
  let c1_i32_321 : BitVec 32 := 1#32
  let v527 : BitVec 32 := Scalar.select v526 c1_i32_321 c16_i32_319
  let v528 : BitVec 32 := Scalar.remsi v525 v527
  let c0_i32_323 : BitVec 32 := 0#32
  let v530 : BitVec 1 := Scalar.cmpi .slt v528 c0_i32_323
  let c0_i32_324 : BitVec 32 := 0#32
  let v531 : BitVec 1 := Scalar.cmpi .slt v527 c0_i32_324
  let v532 : BitVec 1 := Scalar.xori v530 v531
  let c0_i32_322 : BitVec 32 := 0#32
  let v529 : BitVec 1 := Scalar.cmpi .ne v528 c0_i32_322
  let v533 : BitVec 1 := Scalar.andi v532 v529
  let v534 : BitVec 32 := Scalar.addi v528 v527
  let v535 : BitVec 32 := Scalar.select v533 v534 v528
  let c1_i32_328 : BitVec 32 := 1#32
  let v536 : BitVec 32 := Scalar.muli v535 c1_i32_328
  let v537 : BitVec 32 := Scalar.addi c0_i32_329 v536
  v537.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x1024 : Shape := ⟨2, ![32768, 1024]⟩
abbrev S_ : Shape := ⟨0, ![]⟩
abbrev S1024 : Shape := ⟨1, ![1024]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S32768x1024, .f32⟩
  | .hbm, ⟨5, _⟩ => ⟨S_, .i32⟩
  | .hbm, ⟨6, _⟩ => ⟨S32768x1024, .f32⟩
  | .hbm, ⟨7, _⟩ => ⟨S_, .i32⟩
  | .hbm, ⟨8, _⟩ => ⟨S1024, .f32⟩
  | .hbm, ⟨9, _⟩ => ⟨S32768x1024, .f32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x1024, .f32⟩
  | .hbm, ⟨14, _⟩ => ⟨S1024, .f32⟩
  | .hbm, ⟨15, _⟩ => ⟨S1024, .f32⟩
  | .hbm, ⟨16, _⟩ => ⟨S1x1024, .f32⟩
  | .hbm, ⟨17, _⟩ => ⟨S_, .i32⟩
  | .hbm, ⟨18, _⟩ => ⟨S32768x1024, .f32⟩
  | .hbm, ⟨19, _⟩ => ⟨S_, .i32⟩
  | .hbm, ⟨20, _⟩ => ⟨S_, .i32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v3 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v3 : Ref sig .tc := ⟨.hbm, 14, rfl⟩
abbrev main_while0b_v4 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v5 : Ref sig .tc := ⟨.hbm, 18, rfl⟩
abbrev main_while0b_c_4 : Ref sig .tc := ⟨.hbm, 19, rfl⟩
abbrev main_while0b_v6 : Ref sig .tc := ⟨.hbm, 20, rfl⟩

abbrev nD : Nat := 1
abbrev τ : Topo := Topo.v7x

variable {F : FTy → Type} [FloatOps F]

abbrev main_while0_count : Scf.Loop 32 := ⟨0#32, 32768#32, 1#32⟩
-- ==== Proof.Protocol.lean ====
/-
The exchange of column totals between the sixteen devices: which device sends to which, the semaphore
cells, the pieces of memory that change hands, and the schedule of what each cell is paid.

Device `c` hands its total to the devices `c+1 … 15`. A receiver has fifteen landing slots; slot `k`
is for the device `k+1` places below it. Before anything is sent every device tells every other device
that its slots are ready: the signal to the device `k+1` places below carries slot `k`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Mathlib.Algebra.BigOperators.Intervals

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state: the pipeline's own and the exchange's, whose duties are numbered -/

/-- Ghost state of the exchange, one round per cell. -/
abbrev UB : Type := URounds (GSem nD τ sig) ℕ
/-- Ghost state of the whole launch: the pipeline's and the exchange's. -/
abbrev UU : Type := UR sig nD τ × UB

local notation "𝕄" => MT nD τ sig Unit (Elt F) ℕ UU ℕ

/-- Where the pipeline's ghost state sits. -/
abbrev EP : Emb (UR sig nD τ) (MT nD τ sig Unit (Elt F) ℕ UU ℕ) := embL
/-- Where the exchange's ghost state sits. -/
abbrev ER : Emb UB (MT nD τ sig Unit (Elt F) ℕ UU ℕ) := embR

variable (m : (ℓ : Loc nD τ sig) → Buf (Elt F) ℓ) (ρ : Dev nD → PrngReg)

/-- The memory at launch: any contents, all semaphores at zero. -/
def s₀ : MemSt nD τ sig (Elt F) := ⟨m, fun _ => 0, ρ⟩

/-! ## Neighbours -/

set_option backward.proofsInPublic true in
/-- The device `k+1` places above, around the mesh. -/
def up (c : Dev nD) (k : ℕ) : Dev nD := ⟨(c.val + k + 1) % 16, Nat.mod_lt _ (by decide)⟩
set_option backward.proofsInPublic true in
/-- The device `k+1` places below, around the mesh. -/
def dn (c : Dev nD) (k : ℕ) : Dev nD := ⟨(c.val + (15 - k)) % 16, Nat.mod_lt _ (by decide)⟩

/-- Going down by an offset and up again comes back. -/
theorem up_dn (c : Dev nD) {k : ℕ} (hk : k < 15) : up (dn c k) k = c :=
  Fin.ext (by have : c.val < 16 := c.isLt; simp only [up, dn]; omega)
/-- Going up by an offset and down again comes back. -/
theorem dn_up (c : Dev nD) {k : ℕ} (hk : k < 15) : dn (up c k) k = c :=
  Fin.ext (by have : c.val < 16 := c.isLt; simp only [up, dn]; omega)

/-- Going `k+1` places up, as a rearrangement of the mesh. -/
def upEquiv (k : ℕ) (hk : k < 15) : Dev nD ≃ Dev nD :=
  ⟨fun c => up c k, fun c => dn c k, fun c => dn_up c hk, fun c => up_dn c hk⟩

/-- A device has somebody `k+1` places above without going around: it sends its total there. -/
abbrev Sends (c : Dev nD) (k : ℕ) : Prop := c.val + k + 1 < 16
/-- A device has somebody `k+1` places below without going around: it receives a total from there. -/
abbrev Recvs (c : Dev nD) (k : ℕ) : Prop := k + 1 ≤ c.val

/-- If a device sends at an offset, the device above it receives there. -/
theorem recvs_up {c : Dev nD} {k : ℕ} (h : Sends c k) : Recvs (up c k) k := by
  have e : (up c k).val = (c.val + k + 1) % 16 := rfl
  show k + 1 ≤ (up c k).val
  have h' : c.val + k + 1 < 16 := h
  rw [e]; omega

/-- The device below sends at an offset exactly if this one receives there. -/
theorem sends_dn {c : Dev nD} {k : ℕ} (hk : k < 15) : Sends (dn c k) k ↔ Recvs c k := by
  have e : (dn c k).val = (c.val + (15 - k)) % 16 := rfl
  have : c.val < 16 := c.isLt
  show (dn c k).val + k + 1 < 16 ↔ k + 1 ≤ c.val
  rw [e]; omega

/-! ## Memory and semaphores -/

/-- The staged input block. -/
abbrev xM : Memref sig .tc .vmem S2048x1024 .f32 := Memref.whole cc0_stg0_0
/-- The staged output block. -/
abbrev oM : Memref sig .tc .vmem S2048x1024 .f32 := Memref.whole cc0_stg1_0
/-- The one row a device sends: its column totals. -/
abbrev msgM : Memref sig .tc .vmem S1x1024 .f32 := Memref.whole cc0_scratch0
/-- The fifteen landing slots. -/
abbrev slotsM : Memref sig .tc .vmem S15x1x1024 .f32 := Memref.whole cc0_scratch1

/-- Each of the fifteen slots lies inside the receiving buffer. -/
theorem slot_inb (k : ℕ) (hk : k < 15) : ∀ a, (![k, 0, 0] : Fin 3 → ℕ) a + S1x1x1024.size a ≤ S15x1x1024.size a := by
  intro a
  fin_cases a
  · show k + 1 ≤ 15; omega
  · show 0 + 1 ≤ 1; omega
  · show 0 + 1024 ≤ 1024; omega

/-- Slot `k` as a rectangle of the landing buffer. -/
abbrev slotRect (k : ℕ) (hk : k < 15) : Rect S15x1x1024 :=
  Rect.unit (s := S15x1x1024) ![k, 0, 0] S1x1x1024.size (slot_inb k hk)
/-- Slot `k` as a row. -/
abbrev slotM (k : ℕ) (hk : k < 15) : Memref sig .tc .vmem S1x1024 .f32 :=
  (slotsM.slice (slotRect k hk) (fun _ => rfl)).squeeze S1x1024 squeezes_S1x1x1024_S1x1024

/-- The barrier semaphore. -/
abbrev barS : Sem sig := (SemArray.scalar (sig.barrier 0 rfl) : Sems sig S_).sem

set_option backward.proofsInPublic true in
/-- The DMA semaphore of a number: 2 to 16 count sends, 17 to 31 landings. -/
def dsem (n : ℕ) : DmaSem sig := (⟨n % 32, Nat.mod_lt _ (by decide)⟩ : Fin 32)

/-- The number of a copy semaphore. -/
theorem dsem_val {n : ℕ} (hn : n < 32) : (dsem n).val = n := Nat.mod_eq_of_lt hn
/-- Copy semaphores of different numbers are different. -/
theorem dsem_inj {a b : ℕ} (ha : a < 32) (hb : b < 32) (h : dsem a = dsem b) : a = b := by
  rw [← dsem_val ha, ← dsem_val hb, h]

/-- A device's barrier cell. -/
abbrev barCell (c : Dev nD) : GSem nD τ sig := ((c : Thread nD τ), .reg barS)
/-- The cell that says a device's send number `k` has left. -/
abbrev sendCell (c : Dev nD) (k : ℕ) : GSem nD τ sig := ((c : Thread nD τ), .dma (dsem (2 + k)))
/-- The cell that says a row has landed in a device's slot `k`. -/
abbrev recvCell (c : Dev nD) (k : ℕ) : GSem nD τ sig := ((c : Thread nD τ), .dma (dsem (17 + k)))

/-- What one landed row adds to its semaphores. -/
abbrev N : ℕ := (msgM : Memref sig .tc .vmem S1x1024 .f32).view.dmaCredit
/-- A landed row adds something. -/
theorem N_pos : 0 < N := View.dmaCredit_pos _ (by decide)

/-! ## Contents -/

/-- Device `c`'s block of the input. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s row of column totals. -/
def total (c : Dev nD) : (cc0_scratch0 : Ref sig .tc).ty.Contents (Elt F) := k0_pay3 (xstg m ρ c)

/-- The elements of the landing buffer that make up slot `k`. -/
def slotSet (k : ℕ) : Finset (cc0_scratch1 : Ref sig .tc).ty.shape.Idx :=
  Finset.univ.filter fun i => (i (0 : Fin 3)).val = k

omit [FloatOps F] in
/-- Slot `k` read as a row covers its rectangle. -/
theorem slot_view_set (k : ℕ) (hk : k < 15) : (slotM k hk).view.set = (slotRect k hk).set := by
  show (((View.whole cc0_scratch1).slice (slotRect k hk)).reshape S1x1024 _).set = _
  rw [View.set_reshape, View.set_slice_whole]

omit [FloatOps F] in
/-- Slot `k` read as a row covers exactly its elements of the landing buffer. -/
theorem slot_set (k : ℕ) (hk : k < 15) : (slotM k hk).view.set = slotSet k := by
  rw [slot_view_set]
  ext i
  unfold slotSet
  rw [Finset.mem_filter, ← Rect.map_emb_univ, Finset.mem_map]
  constructor
  · rintro ⟨x, -, rfl⟩
    refine ⟨Finset.mem_univ _, ?_⟩
    have hx : (x (0 : Fin 3)).val < 1 := (x (0 : Fin 3)).isLt
    show k + 1 * (x (0 : Fin 3)).val = k
    omega
  · rintro ⟨-, h⟩
    refine ⟨fun a => ⟨(i a).val - ![k, 0, 0] a, ?_⟩, Finset.mem_univ _, ?_⟩
    · have := (i a).isLt
      fin_cases a
      · show (i (0 : Fin 3)).val - k < 1; omega
      · show (i (1 : Fin 3)).val - 0 < 1
        have h1 : (i (1 : Fin 3)).val < 1 := (i (1 : Fin 3)).isLt
        omega
      · show (i (2 : Fin 3)).val - 0 < 1024
        have h1 : (i (2 : Fin 3)).val < 1024 := (i (2 : Fin 3)).isLt
        omega
    · funext a
      apply Fin.ext
      fin_cases a
      · show k + 1 * ((i (0 : Fin 3)).val - k) = (i (0 : Fin 3)).val; omega
      · show 0 + 1 * ((i (1 : Fin 3)).val - 0) = (i (1 : Fin 3)).val; omega
      · show 0 + 1 * ((i (2 : Fin 3)).val - 0) = (i (2 : Fin 3)).val; omega

/-- Slot `k` of device `c`, holding what it holds in `f`. -/
def slotPts (c : Dev nD) (k : ℕ) (f : Buf (Elt F) ((c : Thread nD τ).loc cc0_scratch1)) : sProp 𝕄 :=
  ((c : Thread nD τ).loc cc0_scratch1) ↦[slotSet k]{fullShare} f
/-- Slot `k` of device `c`, holding anything. -/
def slotAny (c : Dev nD) (k : ℕ) : sProp 𝕄 := iprop(∃ f, slotPts c k f)
/-- Slot `k` of device `c`, holding the total of the device `k+1` places below. -/
def slotGot (c : Dev nD) (k : ℕ) : sProp 𝕄 :=
  iprop(∃ f : Buf (Elt F) ((c : Thread nD τ).loc cc0_scratch1),
    ⌜∀ hk : k < 15, (slotM k hk).view.read (Elt F) f = total m ρ (dn c k)⌝ ∗ slotPts c k f)
/-- The share of the row of totals that is lent to the transfer of slot `k`. -/
def msgTok (c : Dev nD) (k : ℕ) : sProp 𝕄 :=
  ((c : Thread nD τ).loc cc0_scratch0) ↦{Transfers.shareTokN fullShare k} total m ρ c
/-- The readiness signal `d` device `c` gets comes from the device `d+1` places above and carries that device's slot `d`, if
    it is for `c` to fill. -/
def barPay (c : Dev nD) (d : ℕ) : sProp 𝕄 := if Sends c d then slotAny (up c d) d else iprop(emp)

omit [FloatOps F] in
/-- A slot may be kept in a cell's record. -/
instance slotPts_storable (c : Dev nD) (k : ℕ) (f) : BI.Storable (upEmb : UEmb _ 𝕄) (slotPts (F := F) c k f) := by
  unfold slotPts; infer_instance
omit [FloatOps F] in
/-- So may a slot of unknown contents, -/
instance slotAny_storable (c : Dev nD) (k : ℕ) : BI.Storable (upEmb : UEmb _ 𝕄) (slotAny (F := F) c k) := by
  unfold slotAny; infer_instance
/-- a slot that has received its row, -/
instance slotGot_storable (c : Dev nD) (k : ℕ) : BI.Storable (upEmb : UEmb _ 𝕄) (slotGot m ρ c k) := by
  unfold slotGot; infer_instance
/-- a lent share of the row of totals, -/
instance msgTok_storable (c : Dev nD) (k : ℕ) : BI.Storable (upEmb : UEmb _ 𝕄) (msgTok m ρ c k) := by
  unfold msgTok; infer_instance
omit [FloatOps F] in
/-- and what a signal brings. -/
instance barPay_storable (c : Dev nD) (d : ℕ) : BI.Storable (upEmb : UEmb _ 𝕄) (barPay (F := F) c d) := by
  unfold barPay; split <;> infer_instance

/-! ## The schedule -/

/-- DMA semaphore `n` of device `c` is used: the transfer it counts takes place. -/
abbrev Used (c : Dev nD) (n : ℕ) : Prop := (2 ≤ n ∧ n < 17 ∧ c.val + n < 17) ∨ (17 ≤ n ∧ n < 17 + c.val)

/-- One round: a barrier cell gets fifteen units, one with each readiness signal; a used DMA cell one row's credit. -/
def rd : Rounds.Schedule (GSem nD τ sig) ℕ 𝕄 where
  duties g r := if r = 0 ∧ g.1.2 = .tc then
      (match g.2 with
        | .reg s => if s = barS then Finset.range 15 else ∅
        | .dma q => if Used g.1.1 q.val then {0} else ∅)
    else ∅
  unitless _ := False
  amount g _ _ := match g.2 with
    | .reg _ => 1
    | .dma _ => N
  payload g _ d := match g.2 with
    | .reg _ => barPay g.1.1 d
    | .dma q => if q.val < 17 then msgTok m ρ g.1.1 (q.val - 2) else slotGot m ρ g.1.1 (q.val - 17)
  amount_pos g _ _ _ := by
    rcases g with ⟨t, s | q⟩
    · exact Nat.one_pos
    · exact N_pos

/-- All that the exchange's cells carry may be kept in their records. -/
instance rd_payload_storable (g : GSem nD τ sig) (r : ℕ) (d : ℕ) :
    BI.Storable (upEmb : UEmb _ 𝕄) ((rd (F := F) m ρ).payload g r d) := by
  rcases g with ⟨t, s | q⟩
  · show BI.Storable upEmb (barPay t.1 d)
    infer_instance
  · show BI.Storable upEmb (if q.val < 17 then msgTok m ρ t.1 (q.val - 2) else slotGot m ρ t.1 (q.val - 17))
    split <;> infer_instance

section Sched
variable (c : Dev nD)

/-- A barrier cell has fifteen duties. -/
theorem duties_bar : (rd (F := F) m ρ).duties (barCell c) 0 = Finset.range 15 := by
  dsimp only [rd]; rw [if_pos ⟨rfl, rfl⟩, if_pos rfl]
/-- No cell has a duty after the first round. -/
theorem duties_later (g : GSem nD τ sig) : ∀ r, 1 ≤ r → (rd (F := F) m ρ).duties g r = ∅ :=
  fun r hr => by dsimp only [rd]; exact if_neg (fun h => by omega)
/-- A copy's cell has one duty if it is used, and else none. -/
theorem duties_dma (n : ℕ) (hn : n < 32) :
    (rd (F := F) m ρ).duties ((c : Thread nD τ), .dma (dsem n)) 0 = if Used c n then {0} else ∅ := by
  dsimp only [rd]
  rw [if_pos ⟨rfl, rfl⟩, dsem_val hn]
/-- The cell of a send that takes place has one duty. -/
theorem duties_send {k : ℕ} (hk : k < 15) (h : Sends c k) : (rd (F := F) m ρ).duties (sendCell c k) 0 = {0} := by
  rw [duties_dma m ρ c (2 + k) (by omega), if_pos]
  have h' : c.val + k + 1 < 16 := h
  exact .inl ⟨by omega, by omega, by omega⟩
/-- The cell of a landing that takes place has one duty. -/
theorem duties_recv {k : ℕ} (hk : k < 15) (h : Recvs c k) : (rd (F := F) m ρ).duties (recvCell c k) 0 = {0} := by
  rw [duties_dma m ρ c (17 + k) (by omega), if_pos]
  have h' : k + 1 ≤ c.val := h
  exact .inr ⟨by omega, by omega⟩
/-- The cell of a send that does not take place has none. -/
theorem duties_send_unused {k : ℕ} (hk : k < 15) (h : ¬ Sends c k) : ∀ r, 0 ≤ r → (rd (F := F) m ρ).duties (sendCell c k) r = ∅ := by
  intro r _
  rcases Nat.eq_zero_or_pos r with rfl | hr
  · rw [duties_dma m ρ c (2 + k) (by omega), if_neg]
    have h' : ¬ c.val + k + 1 < 16 := h
    rintro (⟨_, _, _⟩ | ⟨_, _⟩) <;> omega
  · exact duties_later m ρ _ r hr
/-- The cell of a landing that does not take place has none. -/
theorem duties_recv_unused {k : ℕ} (hk : k < 15) (h : ¬ Recvs c k) : ∀ r, 0 ≤ r → (rd (F := F) m ρ).duties (recvCell c k) r = ∅ := by
  intro r _
  rcases Nat.eq_zero_or_pos r with rfl | hr
  · rw [duties_dma m ρ c (17 + k) (by omega), if_neg]
    have h' : ¬ k + 1 ≤ c.val := h
    rintro (⟨_, _, _⟩ | ⟨_, _⟩) <;> omega
  · exact duties_later m ρ _ r hr

/-- A signal adds one to a barrier. -/
theorem amount_bar (d : ℕ) : (rd (F := F) m ρ).amount (barCell c) 0 d = 1 := rfl
/-- A copy adds the size of a row. -/
theorem amount_dma (q : DmaSem sig) (d : ℕ) : (rd (F := F) m ρ).amount ((c : Thread nD τ), .dma q) 0 d = N := rfl

/-- A barrier expects fifteen. -/
theorem expect_bar : (rd (F := F) m ρ).expect (barCell c) 0 = 15 := by
  unfold Schedule.expect Schedule.amountOf
  rw [duties_bar, Finset.sum_congr rfl fun d _ => amount_bar m ρ c d, Finset.sum_const, Finset.card_range, smul_eq_mul]
/-- The cell of a send that takes place expects one row. -/
theorem expect_send {k : ℕ} (hk : k < 15) (h : Sends c k) : (rd (F := F) m ρ).expect (sendCell c k) 0 = N := by
  unfold Schedule.expect Schedule.amountOf; rw [duties_send m ρ c hk h, Finset.sum_singleton, amount_dma]
/-- The cell of a landing that takes place expects one row. -/
theorem expect_recv {k : ℕ} (hk : k < 15) (h : Recvs c k) : (rd (F := F) m ρ).expect (recvCell c k) 0 = N := by
  unfold Schedule.expect Schedule.amountOf; rw [duties_recv m ρ c hk h, Finset.sum_singleton, amount_dma]

/-- What a signal brings to a barrier. -/
theorem payload_bar (d : ℕ) : (rd (F := F) m ρ).payload (barCell c) 0 d = barPay c d := rfl
/-- What a finished send gives back: the lent share. -/
theorem payload_send {k : ℕ} (hk : k < 15) (d : ℕ) : (rd (F := F) m ρ).payload (sendCell c k) 0 d = msgTok m ρ c k := by
  dsimp only [rd]
  rw [dsem_val (by omega), if_pos (by omega), show 2 + k - 2 = k by omega]
/-- What a landing brings: the slot with its row. -/
theorem payload_recv {k : ℕ} (hk : k < 15) (d : ℕ) : (rd (F := F) m ρ).payload (recvCell c k) 0 d = slotGot m ρ c k := by
  dsimp only [rd]
  rw [dsem_val (by omega), if_neg (by omega), show 17 + k - 17 = k by omega]

/-- Everything a completed wait on the barrier brings. -/
theorem rest_bar : bigSep ((rd (F := F) m ρ).duties (barCell c) 0 \ ∅) (fun d => (rd (F := F) m ρ).payload (barCell c) 0 d)
    = bigSep (Finset.range 15) fun d => barPay c d := by
  rw [Finset.sdiff_empty, duties_bar]; rfl
/-- A completed send brings its share of the row of totals back. -/
theorem rest_send {k : ℕ} (hk : k < 15) (h : Sends c k) :
    bigSep ((rd (F := F) m ρ).duties (sendCell c k) 0 \ ∅) (fun d => (rd (F := F) m ρ).payload (sendCell c k) 0 d) = msgTok m ρ c k := by
  rw [Finset.sdiff_empty, duties_send m ρ c hk h, bigSep_singleton, payload_send m ρ c hk]
/-- A completed landing brings the filled slot. -/
theorem rest_recv {k : ℕ} (hk : k < 15) (h : Recvs c k) :
    bigSep ((rd (F := F) m ρ).duties (recvCell c k) 0 \ ∅) (fun d => (rd (F := F) m ρ).payload (recvCell c k) 0 d) = slotGot m ρ c k := by
  rw [Finset.sdiff_empty, duties_recv m ρ c hk h, bigSep_singleton, payload_recv m ρ c hk]

end Sched

/-! ## What a device owes, and the order of waits -/

/-- What device `c` still owes for its transfers `n, …, 14`. -/
def owesSend (c : Dev nD) (n : ℕ) : CellTallies nD τ sig Unit :=
  ∑ k ∈ Finset.Ico n 15, if Sends c k then tallyAt (recvCell (up c k) k) () N else 0
/-- What device `c` owes for its signals `0, …, n-1` and all its transfers. -/
def owesSig (c : Dev nD) (n : ℕ) : CellTallies nD τ sig Unit :=
  owesSend c 0 + ∑ j ∈ Finset.range n, tallyAt (barCell (dn c j)) () 1

/-- Before a signal, a device owes that signal more than after it. -/
theorem owesSig_succ (c : Dev nD) (n : ℕ) : owesSig c (n + 1) = owesSig c n + tallyAt (barCell (dn c n)) () 1 := by
  unfold owesSig; rw [Finset.sum_range_succ, add_assoc]
/-- When all signals are given, only the landings are owed. -/
theorem owesSig_zero (c : Dev nD) : owesSig c 0 = owesSend c 0 := by
  unfold owesSig; rw [Finset.sum_range_zero, add_zero]
/-- Before a send, a device owes that landing, if it takes place, more than after it. -/
theorem owesSend_succ (c : Dev nD) {n : ℕ} (hn : n < 15) :
    owesSend c n = owesSend c (n + 1) + (if Sends c n then tallyAt (recvCell (up c n) n) () N else 0) := by
  unfold owesSend; rw [Finset.sum_eq_sum_Ico_succ_bot hn, add_comm]
/-- After the last send nothing is owed. -/
theorem owesSend_last (c : Dev nD) : owesSend c 15 = 0 := by
  unfold owesSend; rw [Finset.Ico_self, Finset.sum_empty]

/-- The cells that can be waited on. -/
def L (g : GSem nD τ sig) : Finset Unit := if g.1.2 = .tc then {()} else ∅
/-- Barrier cells at 1, landing cells at 2, everything else at 0. -/
def lv (g : GSem nD τ sig) (_ : Unit) : ℕ := match g.2 with
  | .reg _ => 1
  | .dma q => if q.val < 17 then 0 else 2

/-- No cell of another core is one. -/
theorem L_of_ne (g : GSem nD τ sig) (h : g.1.2 ≠ .tc) : L g = ∅ := if_neg h
/-- Every cell of a device's main core is one. -/
theorem L_tc (c : Dev nD) (sm : SemLoc sig) : L ((c : Thread nD τ), sm) = {()} := if_pos rfl
/-- Landing cells are at level two. -/
theorem lv_recv (c : Dev nD) {k : ℕ} (hk : k < 15) (u : Unit) : lv (recvCell c k) u = 2 := by
  dsimp only [lv]; rw [dsem_val (by omega), if_neg (by omega)]

/-- If a sum of debts owes at a cell, one of them does. -/
theorem sum_tally_pos {I : Type} [DecidableEq I] {S : Finset I} {f : I → CellTallies nD τ sig Unit} {g : GSem nD τ sig} {u : Unit}
    (h : 0 < (∑ i ∈ S, f i) g u) : ∃ i ∈ S, 0 < f i g u := by
  by_contra hn
  push Not at hn
  rw [Finset.sum_apply, Finsupp.finset_sum_apply, Finset.sum_eq_zero fun i hi => Nat.le_zero.mp (hn i hi)] at h
  exact Nat.lt_irrefl 0 h

/-- A debt at one cell owes only there. -/
theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

/-- Whatever the sends owe is owed at landing cells. -/
theorem owesSend_pos {c : Dev nD} {n : ℕ} {g : GSem nD τ sig} {u : Unit} (h : 0 < owesSend c n g u) :
    ∃ k, k < 15 ∧ g = recvCell (up c k) k := by
  obtain ⟨k, hk, h⟩ := sum_tally_pos h
  refine ⟨k, (Finset.mem_Ico.mp hk).2, ?_⟩
  split at h
  · exact tally_pos h
  · exact absurd h (Nat.lt_irrefl 0)

/-- Whatever is owed in all is owed at landing cells or barriers. -/
theorem owesSig_pos {c : Dev nD} {n : ℕ} {g : GSem nD τ sig} {u : Unit} (h : 0 < owesSig c n g u) :
    (∃ k, k < 15 ∧ g = recvCell (up c k) k) ∨ ∃ j, g = barCell (dn c j) := by
  unfold owesSig at h
  rw [Pi.add_apply, Finsupp.add_apply] at h
  rcases Nat.eq_zero_or_pos (owesSend c 0 g u) with h0 | h0
  · rw [h0, Nat.zero_add] at h
    obtain ⟨j, -, h⟩ := sum_tally_pos h
    exact .inr ⟨j, tally_pos h⟩
  · exact .inl (owesSend_pos h0)

/-- A device may wait on a staging semaphore whatever it owes of the exchange. -/
theorem mayWait_stage (c : Dev nD) (q : DmaSem sig) (hq : q.val < 17) (O : CellTallies nD τ sig Unit) (hO : O = owesSig c 15 ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owesSig_pos hg with ⟨k, _, rfl⟩ | ⟨j, rfl⟩ <;> exact Finset.mem_singleton_self _)
      (fun p hp => by rw [Finset.mem_singleton.mp hp]; dsimp only [lv]; rw [if_pos hq])
      (fun g u hg => by
        rcases owesSig_pos hg with ⟨k, hk, rfl⟩ | ⟨j, rfl⟩
        · rw [lv_recv _ hk]; decide
        · exact Nat.one_pos)
  · rw [MayWait_zero]; iintro -; iempintro

/-- At its barrier wait a device owes landings only, which come after. -/
theorem mayWait_bar (c : Dev nD) : (levAts L lv : sProp 𝕄) ⊢ MayWait (c : Thread nD τ) (.reg barS) () (owesSend c 0) :=
  MayOwe.of_cut (L := L) (lev := lv) 1 (fun p hp => by rw [Finset.mem_singleton.mp hp, L_tc]; exact Finset.mem_singleton_self _)
    (fun g u hg => by obtain ⟨k, _, rfl⟩ := owesSend_pos hg; exact Finset.mem_singleton_self _)
    (fun p hp => by rw [Finset.mem_singleton.mp hp]; exact le_rfl)
    (fun g u hg => by obtain ⟨k, hk, rfl⟩ := owesSend_pos hg; rw [lv_recv _ hk]; decide)

end Cert.PrefixProof

end
-- ==== Proof.Steps.lean ====
/-
One lemma per kind of step of the exchange: a readiness signal, the wait for all fifteen of them, a
send, a receive, and the wait for a send. Each is stated once for every slot.
-/
module

public import proofs.«01_k».proof.Proof.Protocol
public import Idealize.SL.BI.BigOpNat

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The programs have no loop that needs a measure. -/
abbrev 𝒱₀ : Variants := Variants.none

/-! ## The program's numbers -/

/-- The targets of the fifteen signals, in program order. -/
def sigDev : Fin 15 → Dev nD → ℕ :=
  ![k0_dev1, k0_dev2, k0_dev3, k0_dev4, k0_dev5, k0_dev6, k0_dev7, k0_dev8, k0_dev9, k0_dev10, k0_dev11, k0_dev12, k0_dev13, k0_dev14, k0_dev15]
/-- A device's number as the program computes it. -/
def word (c : Dev nD) : BitVec 32 := Scalar.remsi (Scalar.divsi (Dev.word c) 1#32) 16#32
/-- The program's test for receiving into slot `k`. -/
def recvTest (c : Dev nD) (k : ℕ) : BitVec 1 := Scalar.cmpi .sge (word c) (BitVec.ofNat 32 (k + 1))
/-- The program's test for having sent to slot `k`. -/
def sentTest (c : Dev nD) (k : ℕ) : BitVec 1 := Scalar.cmpi .slt (Scalar.addi (word c) (BitVec.ofNat 32 (k + 1))) 16#32

/-- The device signalled at offset `i + 1`. -/
theorem sigDev_eq : ∀ (c : Dev nD) (i : Fin 15), sigDev i c = (c.val + (i.val + 1)) % 16 := by decide +kernel
/-- The tests that decide whether the fifteen sends take place. -/
theorem sendConds : ∀ c : Dev nD,
    (k0_cond1 c = 1#1 ↔ Sends c 0) ∧ (k0_cond2 c = 1#1 ↔ Sends c 1) ∧ (k0_cond3 c = 1#1 ↔ Sends c 2) ∧ (k0_cond4 c = 1#1 ↔ Sends c 3) ∧
    (k0_cond5 c = 1#1 ↔ Sends c 4) ∧ (k0_cond6 c = 1#1 ↔ Sends c 5) ∧ (k0_cond7 c = 1#1 ↔ Sends c 6) ∧ (k0_cond8 c = 1#1 ↔ Sends c 7) ∧
    (k0_cond9 c = 1#1 ↔ Sends c 8) ∧ (k0_cond10 c = 1#1 ↔ Sends c 9) ∧ (k0_cond11 c = 1#1 ↔ Sends c 10) ∧ (k0_cond12 c = 1#1 ↔ Sends c 11) ∧
    (k0_cond13 c = 1#1 ↔ Sends c 12) ∧ (k0_cond14 c = 1#1 ↔ Sends c 13) ∧ (k0_cond15 c = 1#1 ↔ Sends c 14) := by
  decide +kernel
/-- The targets of the fifteen sends. -/
theorem sendDevs : ∀ c : Dev nD,
    k0_dev16 c = (c.val + 0 + 1) % 16 ∧ k0_dev17 c = (c.val + 1 + 1) % 16 ∧ k0_dev18 c = (c.val + 2 + 1) % 16 ∧ k0_dev19 c = (c.val + 3 + 1) %
    16 ∧ k0_dev20 c = (c.val + 4 + 1) % 16 ∧ k0_dev21 c = (c.val + 5 + 1) % 16 ∧ k0_dev22 c = (c.val + 6 + 1) % 16 ∧ k0_dev23 c = (c.val + 7 +
    1) % 16 ∧ k0_dev24 c = (c.val + 8 + 1) % 16 ∧ k0_dev25 c = (c.val + 9 + 1) % 16 ∧ k0_dev26 c = (c.val + 10 + 1) % 16 ∧ k0_dev27 c = (c.val +
    11 + 1) % 16 ∧ k0_dev28 c = (c.val + 12 + 1) % 16 ∧ k0_dev29 c = (c.val + 13 + 1) % 16 ∧ k0_dev30 c = (c.val + 14 + 1) % 16 := by
  decide +kernel
/-- The test for a landing is true exactly on the devices that receive there. -/
theorem recvTest_iff : ∀ (c : Dev nD) (k : Fin 15), recvTest c k.val = 1#1 ↔ Recvs c k.val := by decide +kernel
/-- So is the same test, widened and compared with zero. -/
theorem recvCond_iff : ∀ (c : Dev nD) (k : Fin 15), Scalar.cmpi .ne (Scalar.extui (recvTest c k.val) : BitVec 32) 0#32 = 1#1 ↔ Recvs c k.val := by decide +kernel
/-- The test for waiting on a send is true exactly on the devices that sent. -/
theorem sentCond_iff : ∀ (c : Dev nD) (k : Fin 15), Scalar.cmpi .ne (Scalar.extui (sentTest c k.val) : BitVec 32) 0#32 = 1#1 ↔ Sends c k.val := by decide +kernel

/-- Each of the fifteen numbers is in range of the semaphore arrays. -/
theorem sem_inb (k : ℕ) (hk : k < 15) : ∀ a, (![k] : Fin 1 → ℕ) a + S1.size a ≤ S15.size a := by
  intro a; fin_cases a; show k + 1 ≤ 15; omega

/-- The semaphore counting the send to slot `k`. -/
abbrev sendSem (k : ℕ) (hk : k < 15) : DmaSem sig :=
  (((cc0_scratch2 : DmaSems sig S15).slice (Rect.unit (s := S15) ![k] S1.size (sem_inb k hk))).squeeze S_ squeezes_S1_S_).sem
/-- The semaphore counting landings in slot `k`. -/
abbrev recvSem (k : ℕ) (hk : k < 15) : DmaSem sig :=
  (((cc0_scratch3 : DmaSems sig S15).slice (Rect.unit (s := S15) ![k] S1.size (sem_inb k hk))).squeeze S_ squeezes_S1_S_).sem

/-- The semaphore of send `k`, by number. -/
theorem sendSem_eq : ∀ k : Fin 15, sendSem k.val k.isLt = dsem (2 + k.val) := by decide +kernel
/-- The semaphore of slot `k`, by number. -/
theorem recvSem_eq : ∀ k : Fin 15, recvSem k.val k.isLt = dsem (17 + k.val) := by decide +kernel

/-! ## The cells' records -/

/-- The exchange's cells of one device: the barrier, then the thirty DMA cells. -/
def csem (i : Fin 31) : SemLoc sig := if i.val = 0 then .reg barS else .dma (dsem (i.val + 1))
/-- A device's cell by its number among the thirty-one. -/
abbrev kcell (ck : Dev nD × Fin 31) : GSem nD τ sig := ((ck.1 : Thread nD τ), csem ck.2)

/-- The first is the barrier, -/
theorem kcell_bar (c : Dev nD) : kcell (c, 0) = barCell c := rfl
/-- the next fifteen are the sending cells, -/
theorem kcell_send (c : Dev nD) {k : ℕ} (hk : k < 15) : kcell (c, ⟨k + 1, by omega⟩) = sendCell c k := by
  show ((c : Thread nD τ), csem _) = _
  unfold csem
  rw [if_neg (by show ¬ k + 1 = 0; omega), show k + 1 + 1 = 2 + k by omega]
/-- and the last fifteen the landing cells. -/
theorem kcell_recv (c : Dev nD) {k : ℕ} (hk : k < 15) : kcell (c, ⟨k + 16, by omega⟩) = recvCell c k := by
  show ((c : Thread nD τ), csem _) = _
  unfold csem
  rw [if_neg (by show ¬ k + 16 = 0; omega), show k + 16 + 1 = 17 + k by omega]

/-- A cell's invariant, under some name, and that its round is open. -/
def record (g : GSem nD τ sig) : sProp 𝕄 := iprop((∃ κ : ℕ, cellInv ER (rd m ρ) κ g) ∗ reached ER g 0)
/-- A cell's record can be copied. -/
instance record_persistent (g : GSem nD τ sig) : BI.Persistent (record m ρ g) := by unfold record; infer_instance

/-- What everybody knows: all cells' records. -/
def world : sProp 𝕄 := bigSep Finset.univ fun ck : Dev nD × Fin 31 => record m ρ (kcell ck)
/-- So can all of them together. -/
instance world_persistent : BI.Persistent (world (F := F) m ρ) := by unfold world; infer_instance

/-- Everybody knows each cell's record: -/
theorem world_cell (ck : Dev nD × Fin 31) : world m ρ ⊢ record m ρ (kcell ck) := by
  unfold world
  exact bigSep_elim (Finset.mem_univ ck)
/-- the barriers', -/
theorem world_bar (c : Dev nD) : world m ρ ⊢ record m ρ (barCell c) := world_cell m ρ (c, 0)
/-- the sending cells', -/
theorem world_send (c : Dev nD) {k : ℕ} (hk : k < 15) : world m ρ ⊢ record m ρ (sendCell c k) := by
  rw [← kcell_send c hk]; exact world_cell m ρ _
/-- and the landing cells'. -/
theorem world_recv (c : Dev nD) {k : ℕ} (hk : k < 15) : world m ρ ⊢ record m ρ (recvCell c k) := by
  rw [← kcell_recv c hk]; exact world_cell m ρ _

/-- What a device owes, whatever it has waited on so far. -/
def debt (c : Dev nD) (O : CellTallies nD τ sig Unit) : sProp 𝕄 := iprop(∃ W, owes (c : Thread nD τ) O W)

/-! ## The signals -/

/-- What signal `j` takes: the right to pay it and the slot it carries. -/
def sigRes (c : Dev nD) (j : ℕ) : sProp 𝕄 := iprop(dutyTok ER (barCell (dn c j)) 0 j ∗ barPay (dn c j) j)
/-- Before the signals `n-1, …, 0`. -/
def sigSt (c : Dev nD) (n : ℕ) : sProp 𝕄 :=
  iprop(world m ρ ∗ debt c (owesSig c n) ∗ bigSep (Finset.range n) (sigRes c))

/-- A signal to the device `n+1` places below. -/
theorem sig_step (c : Dev nD) (n : ℕ) (hn : n < 15) {t : ℕ} (ht : t = (c.val + (15 - n)) % 16) {hlt : t < nD}
    {α : Type} {Q : α → sProp 𝕄} {k : PUnit → Prog (TpuEff nD τ sig (Elt F) Λ₀ .tc) α} :
    sigSt m ρ c (n + 1)
      ⊢ iprop((sigSt m ρ c n -∗ wp frame (wpE (defs₀ (F := F)) 𝒱₀ (c : Thread nD τ) none) Set.univ (k ⟨⟩) Q)
          -∗ wp frame (wpE (defs₀ (F := F)) 𝒱₀ (c : Thread nD τ) none) Set.univ
              (semSignalWord (⟨t, hlt⟩ : Dev nD) barS 1#32 >>= k) Q) := by
  have htd : (⟨t, hlt⟩ : Dev nD) = dn c n := Fin.ext ht
  rw [htd]
  unfold sigSt debt
  rw [bigSep_range_succ]
  iintro ⟨#HR, ⟨%W, HO⟩, Hr, Hrest⟩ Hk
  unfold sigRes
  icases Hr with ⟨Htok, Hpay⟩
  ihave Hrec := (world_bar m ρ (dn c n)) $$ HR
  unfold record
  icases Hrec with ⟨⟨%κ, #HI⟩, #Hre⟩
  iapply (Rounds.wp_signal 𝒱₀ ER (rd m ρ) (c : Thread nD τ) none (dst := (dn c n : Thread nD τ)) (κ := κ) (k' := 1)
      (d := n) (by rw [duties_bar]; exact Finset.mem_range.mpr hn) rfl () (owesSig c n) (owesSig_succ c n)) $$ [HO Htok Hpay]
  · isplitr; · iexact HI
    isplitl [HO]; · iexact HO
    isplitl [Htok]; · iexact Htok
    isplitl [Hpay]; · rw [payload_bar]; iexact Hpay
    iexact Hre
  iintro HO
  iapply Hk
  isplitr; · iexact HR
  isplitl [HO]; · iexists W; iexact HO
  iexact Hrest

/-! ## The barrier -/

/-- The wait for all fifteen signals: every slot this device will fill comes with it. -/
theorem bar_step (c : Dev nD) {α : Type} {Q : α → sProp 𝕄} {k : PUnit → Prog (TpuEff nD τ sig (Elt F) Λ₀ .tc) α} :
    iprop(sigSt m ρ c 0 ∗ levAts L lv ∗ atPos ER (barCell c) 0 ∅ 0 ∗ cred (tallyAt (barCell c) () 15))
      ⊢ iprop(((world m ρ ∗ debt c (owesSend c 0) ∗ (bigSep (Finset.range 15) fun d => barPay c d) ∗ semVal (barCell c) 0)
            -∗ wp frame (wpE (defs₀ (F := F)) 𝒱₀ (c : Thread nD τ) none) Set.univ (k ⟨⟩) Q)
          -∗ wp frame (wpE (defs₀ (F := F)) 𝒱₀ (c : Thread nD τ) none) Set.univ (semWaitWord barS 15#32 >>= k) Q) := by
  unfold sigSt debt
  iintro ⟨⟨#HR, ⟨%W, HO⟩, -⟩, #Hlev, Hat, Hc⟩ Hk
  rw [owesSig_zero]
  ihave Hrec := (world_bar m ρ c) $$ HR
  unfold record
  icases Hrec with ⟨⟨%κ, #HI⟩, #Hre⟩
  iapply (Rounds.wp_wait_rest_token 𝒱₀ ER (rd m ρ) (c : Thread nD τ) none (κ := κ)
      (wpE_semWait_eq 𝒱₀ (c : Thread nD τ) none Set.univ) (Set.mem_univ _) () (O := owesSend c 0) (W := W) (R := 0) (m := 0) (T := ∅)
      (by rw [expect_bar]; rfl)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (rd m ρ) (Set.mem_univ κ) (fun h => h) (R := 0 + 1) (duties_later m ρ (barCell c))) $$ [Hat] with Hz
  · isplitr; · iexact HI
    iexact Hat
  iapply Hk
  isplitr; · iexact HR
  isplitl [HO]; · iexists _; iexact HO
  isplitl [Hp]; · iexact Hp
  iexact Hz

/-! ## The sends -/

/-- What send `k` takes: the rights to pay both its cells, a share of the row sent, the slot it fills. -/
def sendRes (c : Dev nD) (k : ℕ) : sProp 𝕄 :=
  iprop(dutyTok ER (sendCell c k) 0 0 ∗ dutyTok ER (recvCell (up c k) k) 0 0 ∗ msgTok m ρ c k ∗ barPay c k)
/-- What it leaves: a claim on the send cell, or the share if there was nobody to send to. -/
def lent (c : Dev nD) (k : ℕ) : sProp 𝕄 := if Sends c k then cred (tallyAt (sendCell c k) () N) else msgTok m ρ c k
/-- Before the sends `n, …, 14`. -/
def sendSt (c : Dev nD) (n : ℕ) : sProp 𝕄 :=
  iprop(world m ρ ∗ debt c (owesSend c n) ∗ bigSep (Finset.Ico n 15) (sendRes m ρ c) ∗ bigSep (Finset.range n) (lent m ρ c))

/-- The transfer of the row of totals into slot `k` of the device `k+1` places above. -/
theorem wp_send (c n : Dev nD) (k : ℕ) (hk : k < 15) (hs : Sends c k) (hn : n = up c k) (s₁ s₂ : DmaSem sig)
    (hs₁ : s₁ = dsem (2 + k)) (hs₂ : s₂ = dsem (17 + k))
    {hsc : (slotM k hk : Memref sig (Dev.tc n : Thread nD τ).2.kind .vmem S1x1024 .f32).view.ref.isScScratch = false}
    {hsrc : (msgM : Memref sig .tc .vmem S1x1024 .f32).view.WordExact} {hdst : (slotM k hk : Memref sig .tc .vmem S1x1024 .f32).view.WordExact}
    {hsem : DmaTarget.Typed .vmem (.dma s₂) (.remote (Dev.tc n : Thread nD τ) (slotM k hk : Memref sig .tc .vmem S1x1024 .f32) (.dma s₁) hsc)}
    {α : Type} {Q : α → sProp 𝕄} {p : PUnit → Prog (TpuEff nD τ sig (Elt F) Λ₀ .tc) α}
    (f : Buf (Elt F) ((up c k : Thread nD τ).loc cc0_scratch1)) (O : CellTallies nD τ sig Unit) (W : Waits sig Unit) :
    iprop(record m ρ (sendCell c k) ∗ record m ρ (recvCell (up c k) k)
        ∗ msgTok m ρ c k ∗ slotPts (up c k) k f
        ∗ owes (c : Thread nD τ) (O + tallyAt (recvCell (up c k) k) () N) W
        ∗ dutyTok ER (sendCell c k) 0 0 ∗ dutyTok ER (recvCell (up c k) k) 0 0)
      ⊢ iprop(((cred (tallyAt (sendCell c k) () N) ∗ owes (c : Thread nD τ) O W)
            -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma msgM (.remote (Dev.tc n : Thread nD τ) (slotM k hk) (.dma s₁) hsc) (.dma s₂) hsrc hdst hsem) p) Q) := by
  subst hn hs₁ hs₂
  unfold record msgTok slotPts
  iintro ⟨⟨⟨%κ₁, #HI₁⟩, #Hr₁⟩, ⟨⟨%κ₂, #HI₂⟩, #Hr₂⟩, Hmsg, Hslot, HO, Ht₁, Ht₂⟩
  iapply (Rounds.wp_send_pointsTo 𝒱₀ ER (rd m ρ) (c : Thread nD τ) none (κ₁ := κ₁) (κ₂ := κ₂)
    (src := msgM) (dst := slotM k hk) (c' := (Dev.tc (up c k) : Thread nD τ)) (sS := .dma (dsem (2 + k))) (sem := .dma (dsem (17 + k)))
    (r₁ := 0) (r₂ := 0) (d₁ := 0) (d₂ := 0) (q := Transfers.shareTokN fullShare k) (fs := total m ρ c) (fd := f)
    (by rw [duties_send m ρ c hk hs]; exact Finset.mem_singleton_self _)
    (by rw [duties_recv m ρ (up c k) hk (recvs_up hs)]; exact Finset.mem_singleton_self _)
    () () N rfl (amount_dma m ρ c _ 0) (amount_dma m ρ (up c k) _ 0) O rfl (W := W)
    (by rw [payload_send m ρ c hk]; unfold msgTok; rw [View.set_whole])
    (by
      rw [payload_recv m ρ (up c k) hk]; unfold slotGot slotPts; rw [slot_set k hk]
      iintro H
      iexists _
      isplitr
      rotate_left
      · iexact H
      · ipureintro; intro hk'; rw [View.read_write_univ, dn_up c hk]; exact View.read_whole _ _))
  rw [View.set_whole, slot_set k hk]
  isplitr; · iexact HI₁
  isplitr; · iexact HI₂
  isplitl [Hmsg]; · iexact Hmsg
  isplitl [Hslot]; · iexact Hslot
  isplitl [HO]; · iexact HO
  isplitl [Ht₁]; · iexact Ht₁
  isplitr; · iexact Hr₁
  isplitl [Ht₂]; · iexact Ht₂
  iexact Hr₂

/-- Send `k`, if there is a device to send to. -/
theorem send_step (c : Dev nD) (k : ℕ) (hk : k < 15) {b : Prop} [Decidable b] (hb : b ↔ Sends c k) {t : ℕ} (ht : t = (c.val + k + 1) % 16)
    {hlt : b → t < nD}
    {α : Type} {Q : α → sProp 𝕄} {p : Prog (TpuEff nD τ sig (Elt F) Λ₀ .tc) α} :
    sendSt m ρ c k
      ⊢ iprop((sendSt m ρ c (k + 1) -∗ wp frame (wpE (defs₀ (F := F)) 𝒱₀ (c : Thread nD τ) none) Set.univ p Q)
          -∗ wp frame (wpE (defs₀ (F := F)) 𝒱₀ (c : Thread nD τ) none) Set.univ
              (dite b (fun h => Prog.lift (.enqueueDma msgM (.remote (Dev.tc (⟨t, hlt h⟩ : Dev nD)) (slotM k hk) (.dma (sendSem k hk)))
                (.dma (recvSem k hk)) (Memref.isWhole_whole cc0_scratch0).wordExact ((View.wordExact_bits rfl).reshape _ _) ⟨⟨rfl, Or.inl rfl⟩, trivial⟩) >>= fun _ => p) (fun _ => p)) Q) := by
  unfold sendSt
  rw [bigSep_Ico_succ_bot hk, bigSep_range_succ, owesSend_succ c hk]
  simp only [Prog.lift, Prog.bind_op, Prog.bind_ret]
  rw [show lent m ρ c k = if Sends c k then cred (tallyAt (sendCell c k) () N) else msgTok m ρ c k from rfl,
    show sendRes m ρ c k = iprop(dutyTok ER (sendCell c k) 0 0 ∗ dutyTok ER (recvCell (up c k) k) 0 0 ∗ msgTok m ρ c k
      ∗ if Sends c k then slotAny (up c k) k else iprop(emp)) from rfl]
  unfold debt
  by_cases h : b
  · have hs : Sends c k := hb.mp h
    rw [dif_pos h, if_pos hs, if_pos hs, if_pos hs]
    iintro ⟨#HR, ⟨%W, HO⟩, ⟨⟨Ht₁, Ht₂, Hmsg, Hslot⟩, Hrest⟩, Hlent⟩ Hk
    unfold slotAny
    icases Hslot with ⟨%f, Hslot⟩
    ihave #Hrec₁ := (world_send m ρ c hk) $$ HR
    ihave #Hrec₂ := (world_recv m ρ (up c k) hk) $$ HR
    iapply (wp_send m ρ c ⟨t, hlt h⟩ k hk hs (Fin.ext ht) (sendSem k hk) (recvSem k hk) (sendSem_eq ⟨k, hk⟩) (recvSem_eq ⟨k, hk⟩)
      f (owesSend c (k + 1)) W) $$ [Ht₁ Ht₂ Hmsg Hslot HO]
    · isplitr; · iexact Hrec₁
      isplitr; · iexact Hrec₂
      isplitl [Hmsg]; · iexact Hmsg
      isplitl [Hslot]; · iexact Hslot
      isplitl [HO]; · iexact HO
      isplitl [Ht₁]; · iexact Ht₁
      iexact Ht₂
    iintro ⟨Hc, HO⟩
    iapply Hk
    isplitr; · iexact HR
    isplitl [HO]; · iexists W; iexact HO
    isplitl [Hrest]; · iexact Hrest
    isplitl [Hc]; · iexact Hc
    iexact Hlent
  · have hs : ¬ Sends c k := fun h' => h (hb.mpr h')
    rw [dif_neg h, if_neg hs, if_neg hs, if_neg hs, add_zero]
    iintro ⟨#HR, ⟨%W, HO⟩, ⟨⟨Ht₁, Ht₂, Hmsg, -⟩, Hrest⟩, Hlent⟩ Hk
    iapply Hk
    isplitr; · iexact HR
    isplitl [HO]; · iexists W; iexact HO
    isplitl [Hrest]; · iexact Hrest
    isplitl [Hmsg]; · iexact Hmsg
    iexact Hlent

/-! ## The receives -/

/-- What receive `k` starts from: its place at its cell, and a claim on the landing, or the slot itself if nothing lands. -/
def recvRes (c : Dev nD) (k : ℕ) : sProp 𝕄 :=
  iprop(atPos ER (recvCell c k) 0 ∅ 0 ∗ if Recvs c k then cred (tallyAt (recvCell c k) () N) else slotAny c k)
/-- What it leaves: the cell at zero and the slot. -/
def landed (c : Dev nD) (k : ℕ) : sProp 𝕄 := iprop(semVal (recvCell c k) 0 ∗ slotAny c k)
/-- Before the receives `n, …, 14`. -/
def recvSt (c : Dev nD) (n : ℕ) : sProp 𝕄 :=
  iprop(world m ρ ∗ debt c 0 ∗ bigSep (Finset.Ico n 15) (recvRes c) ∗ bigSep (Finset.range n) (landed c))

/-- Receive `k`, if there is a device to receive from, and the load of slot `k`: the row loaded is that device's total if there is
    one. -/
theorem recv_step (c : Dev nD) (k : ℕ) (hk : k < 15) {b : Prop} [Decidable b] (hb : b ↔ Recvs c k)
    {α : Type} {Q : α → sProp 𝕄} {p : Vec F S1x1x1024 .f32 → Prog (TpuEff nD τ sig (Elt F) Λ₀ .tc) α} :
    recvSt m ρ c k
      ⊢ iprop((∀ q : Vec F S1x1x1024 .f32, (⌜Recvs c k → shapeCast S1x1024 q shapeCasts_S1x1x1024_S1x1024 = total m ρ (dn c k)⌝ ∗ recvSt m ρ c (k + 1))
            -∗ wp frame (wpE (defs₀ (F := F)) 𝒱₀ (c : Thread nD τ) none) Set.univ (p q) Q)
          -∗ wp frame (wpE (defs₀ (F := F)) 𝒱₀ (c : Thread nD τ) none) Set.univ
              (dite b (fun _ => Prog.lift (.waitDma2 (recvSem k hk) msgM (slotM k hk) (Memref.isWhole_whole cc0_scratch0).wordExact ((View.wordExact_bits rfl).reshape _ _))
                  >>= fun _ => Prog.lift (.load slotsM (slotRect k hk).toLoadRect (View.loadsAt_vmem h_S1x1x1024)) >>= p)
                (fun _ => Prog.lift (.load slotsM (slotRect k hk).toLoadRect (View.loadsAt_vmem h_S1x1x1024)) >>= p)) Q) := by
  have hsub : (slotsM : Memref sig .tc .vmem S15x1x1024 .f32).view.setOn (slotRect k hk).toLoadRect.set ⊆ slotSet k := by
    rw [← slot_set k hk, slot_view_set]
    show Finset.map (Function.Embedding.refl _) (slotRect k hk).set ⊆ _
    rw [Finset.map_refl]
  rw [show recvSem k hk = dsem (17 + k) from recvSem_eq ⟨k, hk⟩]
  unfold recvSt
  rw [bigSep_Ico_succ_bot hk, bigSep_range_succ]
  simp only [Prog.lift, Prog.bind_op, Prog.bind_ret]
  rw [show recvRes (F := F) c k = iprop(atPos ER (recvCell c k) 0 ∅ 0 ∗ if Recvs c k then cred (tallyAt (recvCell c k) () N) else slotAny c k) from rfl]
  by_cases h : b
  · have hs : Recvs c k := hb.mp h
    rw [dif_pos h, if_pos hs]
    unfold debt
    iintro ⟨#HR, ⟨%W, HO⟩, ⟨⟨Hat, Hc⟩, Hrest⟩, Hland⟩ Hk
    ihave #Hrec := (world_recv m ρ c hk) $$ HR
    unfold record
    icases Hrec with ⟨⟨%κ, #HI⟩, #Hre⟩
    iapply (Rounds.wp_wait_rest_token 𝒱₀ ER (rd m ρ) (c : Thread nD τ) none (κ := κ)
        (wpE_waitDma2_eq 𝒱₀ (c : Thread nD τ) none Set.univ) (Set.mem_univ _) () (O := 0) (W := W) (R := 0) (m := 0) (T := ∅)
        (by rw [Nat.zero_add, expect_recv m ρ c hk hs])) $$ [Hc HO Hat]
    · isplitr; · iexact HI
      isplitl [Hc]; · iexact Hc
      isplitl [HO]; · iexact HO
      isplitr; · rw [MayWait_zero]; iempintro
      iexact Hat
    iintro ⟨HO, Hat, -, Hpay⟩
    ihave Hp := (Entails.of_eq (rest_recv m ρ c hk hs)) $$ Hpay
    imod (Rounds.cell_close ER (rd m ρ) (Set.mem_univ κ) (fun h => h) (R := 0 + 1) (duties_later m ρ (recvCell c k))) $$ [Hat] with Hz
    · isplitr; · iexact HI
      iexact Hat
    unfold slotGot slotPts
    icases Hp with ⟨%f, %hf, Hp⟩
    iapply (wp_load 𝒱₀ (c : Thread nD τ) none Set.univ (m := slotsM) hsub) $$ Hp; iintro Hp
    iapply Hk
    isplitr; · ipureintro; exact fun _ => hf hk
    isplitr; · iexact HR
    isplitl [HO]; · iexists _; iexact HO
    isplitl [Hrest]; · iexact Hrest
    isplitl [Hz Hp]
    · unfold landed slotAny slotPts
      isplitl [Hz]; · iexact Hz
      iexists f; iexact Hp
    iexact Hland
  · have hs : ¬ Recvs c k := fun h' => h (hb.mpr h')
    rw [dif_neg h, if_neg hs]
    iintro ⟨#HR, Hdebt, ⟨⟨Hat, Hc⟩, Hrest⟩, Hland⟩ Hk
    ihave #Hrec := (world_recv m ρ c hk) $$ HR
    unfold record
    icases Hrec with ⟨⟨%κ, #HI⟩, #Hre⟩
    imod (Rounds.cell_close ER (rd m ρ) (Set.mem_univ κ) (fun h => h) (R := 0) (duties_recv_unused m ρ c hk hs)) $$ [Hat] with Hz
    · isplitr; · iexact HI
      iexact Hat
    unfold slotAny slotPts
    icases Hc with ⟨%f, Hp⟩
    iapply (wp_load 𝒱₀ (c : Thread nD τ) none Set.univ (m := slotsM) hsub) $$ Hp; iintro Hp
    iapply Hk
    isplitr; · ipureintro; exact fun h' => absurd h' hs
    isplitr; · iexact HR
    isplitl [Hdebt]; · iexact Hdebt
    isplitl [Hrest]; · iexact Hrest
    isplitl [Hz Hp]
    · unfold landed slotAny slotPts
      isplitl [Hz]; · iexact Hz
      iexists f; iexact Hp
    iexact Hland

/-! ## The sends' completion -/

/-- What the wait for send `k` starts from. -/
def doneRes (c : Dev nD) (k : ℕ) : sProp 𝕄 := iprop(atPos ER (sendCell c k) 0 ∅ 0 ∗ lent m ρ c k)
/-- What it leaves: the cell at zero and the share that was lent. -/
def returned (c : Dev nD) (k : ℕ) : sProp 𝕄 := iprop(semVal (sendCell c k) 0 ∗ msgTok m ρ c k)
/-- Before the waits for the sends `n, …, 14`. -/
def doneSt (c : Dev nD) (n : ℕ) : sProp 𝕄 :=
  iprop(world m ρ ∗ debt c 0 ∗ bigSep (Finset.Ico n 15) (doneRes m ρ c) ∗ bigSep (Finset.range n) (returned m ρ c))

/-- The wait for send `k`, if it took place. -/
theorem done_step (c : Dev nD) (k : ℕ) (hk : k < 15) {b : Prop} [Decidable b] (hb : b ↔ Sends c k)
    {α : Type} {Q : α → sProp 𝕄} {p : Prog (TpuEff nD τ sig (Elt F) Λ₀ .tc) α} :
    doneSt m ρ c k
      ⊢ iprop((doneSt m ρ c (k + 1) -∗ wp frame (wpE (defs₀ (F := F)) 𝒱₀ (c : Thread nD τ) none) Set.univ p Q)
          -∗ wp frame (wpE (defs₀ (F := F)) 𝒱₀ (c : Thread nD τ) none) Set.univ
              (dite b (fun _ => Prog.lift (.waitDma2 (sendSem k hk) (slotM k hk) msgM ((View.wordExact_bits rfl).reshape _ _) (Memref.isWhole_whole cc0_scratch0).wordExact) >>= fun _ => p) (fun _ => p)) Q) := by
  rw [show sendSem k hk = dsem (2 + k) from sendSem_eq ⟨k, hk⟩]
  unfold doneSt
  rw [bigSep_Ico_succ_bot hk, bigSep_range_succ]
  simp only [Prog.lift, Prog.bind_op, Prog.bind_ret]
  rw [show doneRes m ρ c k = iprop(atPos ER (sendCell c k) 0 ∅ 0 ∗ if Sends c k then cred (tallyAt (sendCell c k) () N) else msgTok m ρ c k) from rfl]
  by_cases h : b
  · have hs : Sends c k := hb.mp h
    rw [dif_pos h, if_pos hs]
    unfold debt
    iintro ⟨#HR, ⟨%W, HO⟩, ⟨⟨Hat, Hc⟩, Hrest⟩, Hdone⟩ Hk
    ihave #Hrec := (world_send m ρ c hk) $$ HR
    unfold record
    icases Hrec with ⟨⟨%κ, #HI⟩, #Hre⟩
    iapply (Rounds.wp_wait_rest_token 𝒱₀ ER (rd m ρ) (c : Thread nD τ) none (κ := κ)
        (wpE_waitDma2_eq 𝒱₀ (c : Thread nD τ) none Set.univ) (Set.mem_univ _) () (O := 0) (W := W) (R := 0) (m := 0) (T := ∅)
        (by rw [Nat.zero_add, expect_send m ρ c hk hs])) $$ [Hc HO Hat]
    · isplitr; · iexact HI
      isplitl [Hc]; · iexact Hc
      isplitl [HO]; · iexact HO
      isplitr; · rw [MayWait_zero]; iempintro
      iexact Hat
    iintro ⟨HO, Hat, -, Hpay⟩
    ihave Hp := (Entails.of_eq (rest_send m ρ c hk hs)) $$ Hpay
    imod (Rounds.cell_close ER (rd m ρ) (Set.mem_univ κ) (fun h => h) (R := 0 + 1) (duties_later m ρ (sendCell c k))) $$ [Hat] with Hz
    · isplitr; · iexact HI
      iexact Hat
    iapply Hk
    isplitr; · iexact HR
    isplitl [HO]; · iexists _; iexact HO
    isplitl [Hrest]; · iexact Hrest
    isplitl [Hz Hp]
    · unfold returned
      isplitl [Hz]; · iexact Hz
      iexact Hp
    iexact Hdone
  · have hs : ¬ Sends c k := fun h' => h (hb.mpr h')
    rw [dif_neg h, if_neg hs]
    iintro ⟨#HR, Hdebt, ⟨⟨Hat, Hc⟩, Hrest⟩, Hdone⟩ Hk
    ihave #Hrec := (world_send m ρ c hk) $$ HR
    unfold record
    icases Hrec with ⟨⟨%κ, #HI⟩, #Hre⟩
    imod (Rounds.cell_close ER (rd m ρ) (Set.mem_univ κ) (fun h => h) (R := 0) (duties_send_unused m ρ c hk hs)) $$ [Hat] with Hz
    · isplitr; · iexact HI
      iexact Hat
    iapply Hk
    isplitr; · iexact HR
    isplitl [Hdebt]; · iexact Hdebt
    isplitl [Hrest]; · iexact Hrest
    isplitl [Hz Hc]
    · unfold returned
      isplitl [Hz]; · iexact Hz
      iexact Hc
    iexact Hdone

end Cert.PrefixProof

end
-- ==== Proof.Dealing.lean ====
/-
What a device computes, and what it is dealt: how the launch's dealing is cut up for the program's phases, and what the
  phases leave is put together again.
-/
module

public import proofs.«01_k».proof.Proof.Steps

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result -/

/-- One factor taken into the product of the lower devices' totals, if the program's test passes. -/
def acc (c : Dev nD) (k : ℕ) (e q : FVec F S1x1024 .f32) : FVec F S1x1024 .f32 := Scalar.select (recvTest c k) (mulf e q) e

/-- The product of the totals of the `n` devices below `c` (those there are), in the order the kernel takes them. -/
def below (c : Dev nD) : ℕ → FVec F S1x1024 .f32
  | 0 => k0_pay7
  | n + 1 => acc c n (below c n) (total m ρ (dn c n))

/-- The kernel's result on device `c`: the running products of its own block, times the product of all lower devices'
    totals. -/
def outAt (c : Dev nD) : (cc0_stg1_0 : Ref sig .tc).ty.Contents (Elt F) :=
  k0_pay1 (k0_pay6 (k0_pay5 (k0_pay4 (xstg m ρ c)))) (below m ρ c 15)

/-- Whatever was read from slot `k`, the factor taken in is the total of the device below, or nothing. -/
theorem acc_read (c : Dev nD) (k : ℕ) (hk : k < 15) {q : Vec F S1x1x1024 .f32}
    (hq : Recvs c k → shapeCast S1x1024 q shapeCasts_S1x1x1024_S1x1024 = total m ρ (dn c k)) :
    acc c k (below m ρ c k) (shapeCast S1x1024 q shapeCasts_S1x1x1024_S1x1024) = below m ρ c (k + 1) := by
  show _ = acc c k (below m ρ c k) (total m ρ (dn c k))
  by_cases h : Recvs c k
  · rw [hq h]
  · have ht : ¬ recvTest c k = 1 := fun h' => h ((recvTest_iff c ⟨k, hk⟩).mp h')
    unfold acc Scalar.select
    rw [if_neg ht, if_neg ht]

/-- What was read from a slot, as a row. -/
abbrev asRow (q : Vec F S1x1x1024 .f32) : FVec F S1x1024 .f32 := shapeCast S1x1024 q shapeCasts_S1x1x1024_S1x1024

/-- The first four slots are taken in one after the other. -/
theorem pay8_eq (c : Dev nD) (e : FVec F S1x1024 .f32) (q0 q1 q2 q3 : Vec F S1x1x1024 .f32) : k0_pay8 (word c) e q0 q1 q2 q3
    = acc c 3 (acc c 2 (acc c 1 (acc c 0 e (asRow q0)) (asRow q1)) (asRow q2)) (asRow q3) := rfl

/-- The next four. -/
theorem pay9_eq (c : Dev nD) (e : FVec F S1x1024 .f32) (q4 q5 q6 q7 : Vec F S1x1x1024 .f32) : k0_pay9 (word c) e q4 q5 q6 q7
    = acc c 7 (acc c 6 (acc c 5 (acc c 4 e (asRow q4)) (asRow q5)) (asRow q6)) (asRow q7) := rfl

/-- Slots eight to eleven. -/
theorem pay10_eq (c : Dev nD) (e : FVec F S1x1024 .f32) (q8 q9 q10 q11 : Vec F S1x1x1024 .f32) : k0_pay10 (word c) e q8 q9 q10 q11
    = acc c 11 (acc c 10 (acc c 9 (acc c 8 e (asRow q8)) (asRow q9)) (asRow q10)) (asRow q11) := rfl

/-- The last three. -/
theorem pay11_eq (c : Dev nD) (e : FVec F S1x1024 .f32) (q12 q13 q14 : Vec F S1x1x1024 .f32) : k0_pay11 (word c) e q12 q13 q14
    = acc c 14 (acc c 13 (acc c 12 e (asRow q12)) (asRow q13)) (asRow q14) := rfl

/-- What the kernel stores, once every slot it counts holds the total of the device it came from. -/
theorem out_read (c : Dev nD) {q0 q1 q2 q3 q4 q5 q6 q7 q8 q9 q10 q11 q12 q13 q14 : Vec F S1x1x1024 .f32}
    (h0 : Recvs c 0 → asRow q0 = total m ρ (dn c 0))
    (h1 : Recvs c 1 → asRow q1 = total m ρ (dn c 1))
    (h2 : Recvs c 2 → asRow q2 = total m ρ (dn c 2))
    (h3 : Recvs c 3 → asRow q3 = total m ρ (dn c 3))
    (h4 : Recvs c 4 → asRow q4 = total m ρ (dn c 4))
    (h5 : Recvs c 5 → asRow q5 = total m ρ (dn c 5))
    (h6 : Recvs c 6 → asRow q6 = total m ρ (dn c 6))
    (h7 : Recvs c 7 → asRow q7 = total m ρ (dn c 7))
    (h8 : Recvs c 8 → asRow q8 = total m ρ (dn c 8))
    (h9 : Recvs c 9 → asRow q9 = total m ρ (dn c 9))
    (h10 : Recvs c 10 → asRow q10 = total m ρ (dn c 10))
    (h11 : Recvs c 11 → asRow q11 = total m ρ (dn c 11))
    (h12 : Recvs c 12 → asRow q12 = total m ρ (dn c 12))
    (h13 : Recvs c 13 → asRow q13 = total m ρ (dn c 13))
    (h14 : Recvs c 14 → asRow q14 = total m ρ (dn c 14)) :
    k0_pay1 (k0_pay6 (k0_pay5 (k0_pay4 (xstg m ρ c))))
      (k0_pay11 (word c) (k0_pay10 (word c) (k0_pay9 (word c) (k0_pay8 (word c) k0_pay7 q0 q1 q2 q3) q4 q5 q6 q7)
        q8 q9 q10 q11) q12 q13 q14) = outAt m ρ c := by
  have hb : (k0_pay7 : FVec F S1x1024 .f32) = below m ρ c 0 := rfl
  rw [pay8_eq, hb, acc_read m ρ c 0 (by decide) h0, acc_read m ρ c 1 (by decide) h1, acc_read m ρ c 2 (by decide) h2,
    acc_read m ρ c 3 (by decide) h3, pay9_eq, acc_read m ρ c 4 (by decide) h4, acc_read m ρ c 5 (by decide) h5,
    acc_read m ρ c 6 (by decide) h6, acc_read m ρ c 7 (by decide) h7, pay10_eq, acc_read m ρ c 8 (by decide) h8,
    acc_read m ρ c 9 (by decide) h9, acc_read m ρ c 10 (by decide) h10, acc_read m ρ c 11 (by decide) h11, pay11_eq,
    acc_read m ρ c 12 (by decide) h12, acc_read m ρ c 13 (by decide) h13, acc_read m ρ c 14 (by decide) h14]
  rfl

/-! ## Dealing out and collecting the two scratch buffers -/

omit [FloatOps F] in
/-- Different slots share no element. -/
theorem slots_disjoint : ∀ t ∈ Finset.range 15, ∀ t' ∈ Finset.range 15, t ≠ t' → Disjoint (slotSet t) (slotSet t') :=
  fun t _ t' _ h => Finset.disjoint_left.mpr fun i hi hi' =>
    h ((Finset.mem_filter.mp hi).2.symm.trans (Finset.mem_filter.mp hi').2)

omit [FloatOps F] in
/-- The fifteen slots make up the whole receiving buffer. -/
theorem slots_cover : (Finset.range 15).biUnion slotSet = (Finset.univ : Finset (cc0_scratch1 : Ref sig .tc).ty.shape.Idx) := by
  ext i
  rw [Finset.mem_biUnion]
  exact ⟨fun _ => Finset.mem_univ _, fun _ => ⟨(i (0 : Fin 3)).val, Finset.mem_range.mpr (show (i (0 : Fin 3)).val < 15 from (i (0 : Fin 3)).isLt),
    Finset.mem_filter.mpr ⟨Finset.mem_univ _, rfl⟩⟩⟩

omit [FloatOps F] in
/-- The landing buffer is its fifteen slots. -/
theorem slots_split (c : Dev nD) (f : Buf (Elt F) ((c : Thread nD τ).loc cc0_scratch1)) :
    (((c : Thread nD τ).loc cc0_scratch1) ↦{fullShare} f : sProp 𝕄) ⊢ bigSep (Finset.range 15) fun k => slotAny c k := by
  rw [← slots_cover, pointsTo_biUnion _ _ slots_disjoint]
  refine bigSep_mono fun k _ => ?_
  show (_ : sProp 𝕄) ⊢ _
  unfold slotAny slotPts
  iintro H; iexists f; iexact H

omit [FloatOps F] in
/-- Choosing the contents of every slot at once. -/
theorem exists_each {B : Type} (S : Finset ℕ) (b : B) (P : ℕ → B → sProp 𝕄) :
    (bigSep S fun k => iprop(∃ f, P k f)) ⊢ iprop(∃ fs : ℕ → B, bigSep S fun k => P k (fs k)) := by
  haveI : Nonempty B := ⟨b⟩
  exact BI.bigSep_exists_pi S P

include m in
omit [FloatOps F] in
/-- The fifteen slots are the landing buffer again. -/
theorem slots_join (c : Dev nD) :
    (bigSep (Finset.range 15) fun k => slotAny (F := F) c k) ⊢ iprop(∃ f : Buf (Elt F) ((c : Thread nD τ).loc cc0_scratch1),
      (((c : Thread nD τ).loc cc0_scratch1) ↦{fullShare} f : sProp 𝕄)) := by
  unfold slotAny slotPts
  iintro H
  ihave H' := (exists_each (Finset.range 15) (m ((c : Thread nD τ).loc cc0_scratch1)) (fun (k : ℕ) (f : Buf (Elt F) ((c : Thread nD τ).loc cc0_scratch1)) =>
    (((c : Thread nD τ).loc cc0_scratch1) ↦[slotSet k]{fullShare} f : sProp 𝕄))) $$ H
  icases H' with ⟨%fs, H'⟩
  ihave H2 := (pointsTo_biUnion_join (Finset.range 15) slotSet fs (fs 0) slots_disjoint) $$ H'
  icases H2 with ⟨%g, -, Hg⟩
  iexists g
  rw [slots_cover]
  iexact Hg

/-- The share of the row of totals that is never lent. -/
def msgKeep (c : Dev nD) : sProp 𝕄 := ((c : Thread nD τ).loc cc0_scratch0) ↦{Transfers.shareDrop fullShare 15} total m ρ c

/-- The row of totals is one kept share and fifteen shares to lend, one per possible send. -/
theorem msg_split (c : Dev nD) :
    (((c : Thread nD τ).loc cc0_scratch0) ↦{fullShare} total m ρ c : sProp 𝕄) ⊣⊢ iprop(msgKeep m ρ c ∗ bigSep (Finset.range 15) (msgTok m ρ c)) := by
  unfold msgKeep msgTok
  exact Transfers.pointsTo_toks_range fullShare 15

/-- A slot goes with the signal to the device that fills it, or stays. -/
theorem slot_deal (c : Dev nD) {k : ℕ} (hk : k < 15) :
    (slotAny c k : sProp 𝕄) ⊢ iprop(barPay (dn c k) k ∗ if Recvs c k then emp else slotAny c k) := by
  unfold barPay
  rw [up_dn c hk]
  by_cases h : Recvs c k
  · rw [if_pos h, if_pos ((sends_dn hk).mpr h)]
    iintro H; isplitl [H]; · iexact H
    iempintro
  · rw [if_neg h, if_neg (fun h' => h ((sends_dn hk).mp h'))]
    iintro H; isplitr; · iempintro
    iexact H

/-! ## What the launch deals a device -/

/-- Its place at its thirty DMA cells and its barrier, the rights to pay, the claims, and what everybody knows. -/
def start (c : Dev nD) : sProp 𝕄 :=
  iprop(world m ρ ∗ levAts L lv
    ∗ atPos ER (barCell c) 0 ∅ 0 ∗ (bigSep (Finset.range 15) fun k => atPos ER (sendCell c k) 0 ∅ 0)
    ∗ (bigSep (Finset.range 15) fun k => atPos ER (recvCell c k) 0 ∅ 0)
    ∗ (bigSep (Finset.range 15) fun j => dutyTok ER (barCell (dn c j)) 0 j)
    ∗ (bigSep (Finset.range 15) fun k => dutyTok ER (sendCell c k) 0 0)
    ∗ (bigSep (Finset.range 15) fun k => dutyTok ER (recvCell (up c k) k) 0 0)
    ∗ cred (tallyAt (barCell c) () 15)
    ∗ (bigSep (Finset.range 15) fun k => if Recvs c k then cred (tallyAt (recvCell c k) () N) else iprop(emp)))

/-- The two scratch buffers, at contents nobody knows yet. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- What a device holds before its single trip: its part of the exchange and its scratch buffers. -/
def Φ₀ (c : Dev nD) : sProp 𝕄 := iprop(start m ρ c ∗ scratch c)
/-- At the end: the scratch buffers, and every cell at zero. -/
def Φ₁ (c : Dev nD) : sProp 𝕄 :=
  iprop(scratch c ∗ (bigSep (Finset.range 15) fun k => semVal (sendCell c k) 0) ∗ (bigSep (Finset.range 15) fun k => semVal (recvCell c k) 0)
    ∗ semVal (barCell c) 0)

/-- The receives' resources: places, claims and the slots that stayed. -/
theorem recv_ready (c : Dev nD) :
    iprop((bigSep (Finset.range 15) fun k => atPos ER (recvCell c k) 0 ∅ 0)
      ∗ (bigSep (Finset.range 15) fun k => if Recvs c k then cred (tallyAt (recvCell c k) () N) else iprop(emp))
      ∗ (bigSep (Finset.range 15) fun k => if Recvs c k then iprop(emp) else slotAny c k))
    ⊢ (bigSep (Finset.Ico 0 15) (recvRes c) : sProp 𝕄) := by
  rw [← bigSep_sep', ← bigSep_sep', ← Finset.range_eq_Ico]
  refine bigSep_mono fun k _ => ?_
  show (_ : sProp 𝕄) ⊢ _
  unfold recvRes
  by_cases h : Recvs c k
  · rw [if_pos h, if_pos h, if_pos h]
    iintro ⟨H1, H2, -⟩; isplitl [H1] <;> iassumption
  · rw [if_neg h, if_neg h, if_neg h]
    iintro ⟨H1, -, H2⟩; isplitl [H1] <;> iassumption

/-- The signals' resources. -/
theorem sig_ready (c : Dev nD) :
    iprop((bigSep (Finset.range 15) fun j => dutyTok ER (barCell (dn c j)) 0 j) ∗ (bigSep (Finset.range 15) fun k => slotAny c k))
    ⊢ (iprop(bigSep (Finset.range 15) (sigRes c) ∗ (bigSep (Finset.range 15) fun k => if Recvs c k then iprop(emp) else slotAny c k)) : sProp 𝕄) := by
  rw [← bigSep_sep', ← bigSep_sep']
  refine bigSep_mono fun k hk => ?_
  show (_ : sProp 𝕄) ⊢ _
  unfold sigRes
  iintro ⟨H1, H2⟩
  ihave H := (slot_deal (F := F) c (Finset.mem_range.mp hk)) $$ H2
  icases H with ⟨H2, H3⟩
  isplitl [H1 H2]
  · isplitl [H1] <;> iassumption
  iexact H3

/-- The sends' resources. -/
theorem send_ready (c : Dev nD) :
    iprop((bigSep (Finset.range 15) fun k => dutyTok ER (sendCell c k) 0 0) ∗ (bigSep (Finset.range 15) fun k => dutyTok ER (recvCell (up c k) k) 0 0)
      ∗ bigSep (Finset.range 15) (msgTok m ρ c) ∗ (bigSep (Finset.range 15) fun k => barPay c k))
    ⊢ (bigSep (Finset.Ico 0 15) (sendRes m ρ c) : sProp 𝕄) := by
  rw [← bigSep_sep', ← bigSep_sep', ← bigSep_sep', ← Finset.range_eq_Ico]
  exact bigSep_mono fun k _ => by unfold sendRes; exact Entails.refl _

/-- The resources of the waits for the sends. -/
theorem done_ready (c : Dev nD) :
    iprop((bigSep (Finset.range 15) fun k => atPos ER (sendCell c k) 0 ∅ 0) ∗ bigSep (Finset.range 15) (lent m ρ c))
    ⊢ (bigSep (Finset.Ico 0 15) (doneRes m ρ c) : sProp 𝕄) := by
  rw [← bigSep_sep', ← Finset.range_eq_Ico]
  exact bigSep_mono fun k _ => by unfold doneRes; exact Entails.refl _

/-- What the landings give back: the landing cells at zero, and the slots. -/
theorem landed_split (c : Dev nD) :
    (bigSep (Finset.range 15) (landed c) : sProp 𝕄)
      ⊢ iprop((bigSep (Finset.range 15) fun k => semVal (recvCell c k) 0) ∗ bigSep (Finset.range 15) fun k => slotAny c k) := by
  rw [← bigSep_sep']
  exact bigSep_mono fun k _ => by unfold landed; exact Entails.refl _

/-- What the sends give back: the sending cells at zero, and the lent shares of the row of totals. -/
theorem returned_split (c : Dev nD) :
    (bigSep (Finset.range 15) (returned m ρ c) : sProp 𝕄)
      ⊢ iprop((bigSep (Finset.range 15) fun k => semVal (sendCell c k) 0) ∗ bigSep (Finset.range 15) (msgTok m ρ c)) := by
  rw [← bigSep_sep']
  exact bigSep_mono fun k _ => by unfold returned; exact Entails.refl _

/-! ## The pipeline's data -/

/-- The only trip of the pipeline. -/
def t₀ : Fin cfg0.N := ⟨0, by decide⟩
/-- Every trip is that one. -/
theorem fin_N (t : Fin cfg0.N) : t = t₀ := by
  obtain ⟨t, ht⟩ := t
  have h1 : cfg0.N = 1 := by decide
  exact Fin.ext (by simp only [t₀]; omega)

/-- What the pipeline carries: the arrays at launch, what each window holds after the trip, and the exchange's state before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => owesSig c 15
    | ⟨_ + 1, _⟩ => 0

omit [FloatOps F] in
/-- The input window is fetched. -/
theorem fetch_0 (t : Fin cfg0.N) : (cfg0.win (0 : Fin 2)).fetch t = true := by rw [fin_N t]; rfl

/-! ## Running a program by its parts -/

/-- To run two programs in turn, run the first and, from what it returns, the second. -/
theorem wp_seq (c : Dev nD) {α β : Type} {p : Prog (TpuEff nD τ sig (Elt F) Λ₀ .tc) α} {k : α → Prog (TpuEff nD τ sig (Elt F) Λ₀ .tc) β} {Q : β → sProp 𝕄} :
    wp frame (wpE (defs₀ (F := F)) 𝒱₀ (c : Thread nD τ) none) Set.univ p (fun a => wp frame (wpE (defs₀ (F := F)) 𝒱₀ (c : Thread nD τ) none) Set.univ (k a) Q)
      ⊢ wp frame (wpE (defs₀ (F := F)) 𝒱₀ (c : Thread nD τ) none) Set.univ (p >>= k) Q :=
  Entails.of_eq (wp_bind _ _ _ _ _ _).symm

/-- A program that only returns meets what already holds of its value. -/
theorem wp_end (c : Dev nD) {α : Type} {a : α} {Q : α → sProp 𝕄} :
    Q a ⊢ wp frame (wpE (defs₀ (F := F)) 𝒱₀ (c : Thread nD τ) none) Set.univ (pure a) Q := by
  show Q a ⊢ wp frame (wpE (defs₀ (F := F)) 𝒱₀ (c : Thread nD τ) none) Set.univ (.ret a) Q
  rw [wp_ret]
  exact fupd_intro

/-- The offsets of a whole-block access are zero. -/
theorem hz : (![0, 0] : Fin 2 → Nat) = fun _ => 0 := funext fun a => by fin_cases a <;> rfl

/-- Reading the whole input block gives its contents. -/
theorem read_x (f : (cc0_stg0_0 : Ref sig .tc).ty.Contents (Elt F)) :
    View.readAt (Elt F) xM.view (Rect.unit (s := S2048x1024) ![0, 0] S2048x1024.size inb_S2048x1024_S2048x1024_0_0).toLoadRect f = f :=
  Memref.readAt_unit_zero (Elt F) cc0_stg0_0 hz _ f

/-- Writing the whole row of totals replaces its contents. -/
theorem write_msg (f w : (cc0_scratch0 : Ref sig .tc).ty.Contents (Elt F)) :
    (msgM.access (Rect.unit (s := S1x1024) ![0, 0] S1x1024.size inb_S1x1024_S1x1024_0_0) : View sig .tc _ _ _).write (Elt F) f w Finset.univ = w :=
  Memref.write_access_unit_zero_univ (Elt F) cc0_scratch0 hz _ f w

/-- Writing the whole output block replaces its contents. -/
theorem write_out (f w : (cc0_stg1_0 : Ref sig .tc).ty.Contents (Elt F)) :
    (oM.access (Rect.unit (s := S2048x1024) ![0, 0] S2048x1024.size inb_S2048x1024_S2048x1024_0_0) : View sig .tc _ _ _).write (Elt F) f w Finset.univ = w :=
  Memref.write_access_unit_zero_univ (Elt F) cc0_stg1_0 hz _ f w

/-- The device's own number. -/
theorem id_step (c : Dev nD) {α : Type} {k : Dev nD → Prog (TpuEff nD τ sig (Elt F) Λ₀ .tc) α} {Q : α → sProp 𝕄} :
    wp frame (wpE (defs₀ (F := F)) 𝒱₀ (c : Thread nD τ) none) Set.univ (k c) Q
      ⊢ wp frame (wpE (defs₀ (F := F)) 𝒱₀ (c : Thread nD τ) none) Set.univ (Prog.lift .deviceId >>= k) Q := by
  simp only [Prog.lift, Prog.bind_op, Prog.bind_ret, wp_deviceId]
  exact Entails.refl _

/-- One effect, then the rest. -/
theorem lift_step (c : Dev nD) {α β : Type} {e : TpuEff nD τ sig (Elt F) Λ₀ .tc β} {k : β → Prog (TpuEff nD τ sig (Elt F) Λ₀ .tc) α} {Q : α → sProp 𝕄} :
    wp frame (wpE (defs₀ (F := F)) 𝒱₀ (c : Thread nD τ) none) Set.univ (.op e k) Q
      ⊢ wp frame (wpE (defs₀ (F := F)) 𝒱₀ (c : Thread nD τ) none) Set.univ (Prog.lift e >>= k) Q := by
  simp only [Prog.lift, Prog.bind_op, Prog.bind_ret]
  exact Entails.refl _

end Cert.PrefixProof

end
-- ==== Proof.Body.lean ====
/-
The kernel's body on one device, run from what the launch deals it to what it leaves.
-/
module

public import proofs.«01_k».proof.Proof.Dealing

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body -/

/-- A whole staging buffer, known. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from: the launch's gifts, what it owes, and the two staged arrays. -/
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What the body leaves: everything returned, the input block as read and the output block as computed. -/
def bodyPost (c : Dev nD) : sProp 𝕄 :=
  iprop(Φ₁ c ∗ (dats m ρ 0 c).owesAt () t₀.succ ∗ stg c cc0_stg0_0 (xstg m ρ c) ∗ stg c cc0_stg1_0 (outAt m ρ c))

attribute [local irreducible] Scalar.cmpi Scalar.remsi Scalar.divsi Scalar.addi Scalar.extui

set_option maxHeartbeats 1600000 in
/-- The body of device `c`, one rule per effect in program order, from `bodyPre` to `bodyPost`. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  obtain ⟨b0, b1, b2, b3, b4, b5, b6, b7, b8, b9, b10, b11, b12, b13, b14⟩ := sendConds c
  obtain ⟨t0, t1, t2, t3, t4, t5, t6, t7, t8, t9, t10, t11, t12, t13, t14⟩ := sendDevs c
  rw [cc0_body_eq_skeleton]; unfold cc0_body_skel
  unfold bodyPre Φ₀ start scratch
  iintro ⟨⟨⟨⟨#Hw, #Hlev, HatB, HatS, HatR, HtB, HtS, HtR, HcB, HcR⟩, ⟨%f0, Hmsg⟩, ⟨%f1, Hslots⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = owesSig c 15 from rfl]
  ihave Hslots := (slots_split c f1) $$ Hslots
  ihave HS := (sig_ready c) $$ [HtB Hslots]
  · isplitl [HtB] <;> iassumption
  icases HS with ⟨HS, Hkept⟩
  ihave HR := (recv_ready c) $$ [HatR HcR Hkept]
  · isplitl [HatR]; · iexact HatR
    isplitl [HcR] <;> iassumption
  ihave HS : sigSt m ρ c 15 $$ [HS HO]
  · unfold sigSt debt
    isplitr; · iexact Hw
    isplitl [HO]; · iexists W; iexact HO
    iexact HS
  iapply (wp_seq c); rw [k0_part1_eq_skeleton]; unfold k0_part1_skel
  iapply (id_step c)
  iapply (sig_step m ρ c 14 (by decide) (sigDev_eq c 0)) $$ HS; iintro HS
  iapply (sig_step m ρ c 13 (by decide) (sigDev_eq c 1)) $$ HS; iintro HS
  iapply (wp_end c)
  iapply (wp_seq c); rw [k0_part2_eq_skeleton]; unfold k0_part2_skel
  iapply (sig_step m ρ c 12 (by decide) (sigDev_eq c 2)) $$ HS; iintro HS
  iapply (sig_step m ρ c 11 (by decide) (sigDev_eq c 3)) $$ HS; iintro HS
  iapply (wp_end c)
  iapply (wp_seq c); rw [k0_part3_eq_skeleton]; unfold k0_part3_skel
  iapply (sig_step m ρ c 10 (by decide) (sigDev_eq c 4)) $$ HS; iintro HS
  iapply (sig_step m ρ c 9 (by decide) (sigDev_eq c 5)) $$ HS; iintro HS
  iapply (sig_step m ρ c 8 (by decide) (sigDev_eq c 6)) $$ HS; iintro HS
  iapply (wp_end c)
  iapply (wp_seq c); rw [k0_part4_eq_skeleton]; unfold k0_part4_skel
  iapply (sig_step m ρ c 7 (by decide) (sigDev_eq c 7)) $$ HS; iintro HS
  iapply (sig_step m ρ c 6 (by decide) (sigDev_eq c 8)) $$ HS; iintro HS
  iapply (wp_end c)
  iapply (wp_seq c); rw [k0_part5_eq_skeleton]; unfold k0_part5_skel
  iapply (sig_step m ρ c 5 (by decide) (sigDev_eq c 9)) $$ HS; iintro HS
  iapply (sig_step m ρ c 4 (by decide) (sigDev_eq c 10)) $$ HS; iintro HS
  iapply (sig_step m ρ c 3 (by decide) (sigDev_eq c 11)) $$ HS; iintro HS
  iapply (wp_end c)
  iapply (wp_seq c); rw [k0_part6_eq_skeleton]; unfold k0_part6_skel
  iapply (sig_step m ρ c 2 (by decide) (sigDev_eq c 12)) $$ HS; iintro HS
  iapply (sig_step m ρ c 1 (by decide) (sigDev_eq c 13)) $$ HS; iintro HS
  iapply (wp_end c)
  iapply (wp_seq c); rw [k0_part7_eq_skeleton]; unfold k0_part7_skel
  iapply (sig_step m ρ c 0 (by decide) (sigDev_eq c 14)) $$ HS; iintro HS
  iapply (lift_step c)
  iapply (wp_load 𝒱₀ (c : Thread nD τ) none Set.univ (m := xM) (Finset.subset_univ _)) $$ Hx; iintro Hx
  rw [read_x]
  iapply (lift_step c)
  iapply (wp_load 𝒱₀ (c : Thread nD τ) none Set.univ (m := msgM) (Finset.subset_univ _)) $$ Hmsg; iintro Hmsg
  iapply (lift_step c)
  iapply (wp_store 𝒱₀ (c : Thread nD τ) none Set.univ (m := msgM)
    (r := Rect.unit (s := S1x1024) ![0, 0] S1x1024.size inb_S1x1024_S1x1024_0_0) (Mk := Finset.univ) (Finset.subset_univ _)) $$ Hmsg; iintro Hmsg
  rw [write_msg]
  ihave Hmsg := (show (((msgM.access (Rect.unit (s := S1x1024) ![0, 0] S1x1024.size inb_S1x1024_S1x1024_0_0)).loc (c : Thread nD τ)) ↦{fullShare} k0_pay3 (xstg m ρ c) : sProp 𝕄) ⊢ _
    from (msg_split m ρ c).1) $$ Hmsg
  icases Hmsg with ⟨Hkeep, Hmsg⟩
  iapply (wp_end c)
  iapply (wp_seq c); rw [k0_part8_eq_skeleton]; unfold k0_part8_skel
  iapply (bar_step m ρ c) $$ [HS HatB HcB]
  · isplitl [HS]; · iexact HS
    isplitr; · iexact Hlev
    isplitl [HatB] <;> iassumption
  iintro ⟨-, HO, Hbar, HzB⟩
  ihave HS := (send_ready m ρ c) $$ [HtS HtR Hmsg Hbar]
  · isplitl [HtS]; · iexact HtS
    isplitl [HtR]; · iexact HtR
    isplitl [Hmsg] <;> iassumption
  ihave HS : sendSt m ρ c 0 $$ [HS HO]
  · unfold sendSt
    isplitr; · iexact Hw
    isplitl [HO]; · iexact HO
    isplitl [HS]; · iexact HS
    rw [Finset.range_zero, bigSep_empty]; iempintro
  iapply (send_step m ρ c 0 (by decide) b0 t0) $$ HS; iintro HS
  iapply (send_step m ρ c 1 (by decide) b1 t1) $$ HS; iintro HS
  iapply (wp_end c)
  iapply (wp_seq c); rw [k0_part9_eq_skeleton]; unfold k0_part9_skel
  iapply (send_step m ρ c 2 (by decide) b2 t2) $$ HS; iintro HS
  iapply (send_step m ρ c 3 (by decide) b3 t3) $$ HS; iintro HS
  iapply (send_step m ρ c 4 (by decide) b4 t4) $$ HS; iintro HS
  iapply (send_step m ρ c 5 (by decide) b5 t5) $$ HS; iintro HS
  iapply (send_step m ρ c 6 (by decide) b6 t6) $$ HS; iintro HS
  iapply (send_step m ρ c 7 (by decide) b7 t7) $$ HS; iintro HS
  iapply (send_step m ρ c 8 (by decide) b8 t8) $$ HS; iintro HS
  iapply (send_step m ρ c 9 (by decide) b9 t9) $$ HS; iintro HS
  iapply (wp_end c)
  iapply (wp_seq c); rw [k0_part10_eq_skeleton]; unfold k0_part10_skel
  iapply (send_step m ρ c 10 (by decide) b10 t10) $$ HS; iintro HS
  iapply (send_step m ρ c 11 (by decide) b11 t11) $$ HS; iintro HS
  iapply (send_step m ρ c 12 (by decide) b12 t12) $$ HS; iintro HS
  iapply (send_step m ρ c 13 (by decide) b13 t13) $$ HS; iintro HS
  iapply (send_step m ρ c 14 (by decide) b14 t14) $$ HS; iintro HS
  unfold sendSt
  icases HS with ⟨-, HO, -, Hlent⟩
  rw [owesSend_last]
  ihave HR : recvSt m ρ c 0 $$ [HR HO]
  · unfold recvSt
    isplitr; · iexact Hw
    isplitl [HO]; · iexact HO
    isplitl [HR]; · iexact HR
    rw [Finset.range_zero, bigSep_empty]; iempintro
  iapply (recv_step m ρ c 0 (by decide) (recvCond_iff c 0)) $$ HR; iintro %q0 ⟨%h0, HR⟩
  iapply (wp_end c)
  iapply (wp_seq c); rw [k0_part11_eq_skeleton]; unfold k0_part11_skel
  iapply (recv_step m ρ c 1 (by decide) (recvCond_iff c 1)) $$ HR; iintro %q1 ⟨%h1, HR⟩
  iapply (recv_step m ρ c 2 (by decide) (recvCond_iff c 2)) $$ HR; iintro %q2 ⟨%h2, HR⟩
  iapply (recv_step m ρ c 3 (by decide) (recvCond_iff c 3)) $$ HR; iintro %q3 ⟨%h3, HR⟩
  iapply (recv_step m ρ c 4 (by decide) (recvCond_iff c 4)) $$ HR; iintro %q4 ⟨%h4, HR⟩
  iapply (wp_end c)
  iapply (wp_seq c); rw [k0_part12_eq_skeleton]; unfold k0_part12_skel
  iapply (recv_step m ρ c 5 (by decide) (recvCond_iff c 5)) $$ HR; iintro %q5 ⟨%h5, HR⟩
  iapply (recv_step m ρ c 6 (by decide) (recvCond_iff c 6)) $$ HR; iintro %q6 ⟨%h6, HR⟩
  iapply (recv_step m ρ c 7 (by decide) (recvCond_iff c 7)) $$ HR; iintro %q7 ⟨%h7, HR⟩
  iapply (recv_step m ρ c 8 (by decide) (recvCond_iff c 8)) $$ HR; iintro %q8 ⟨%h8, HR⟩
  iapply (wp_end c)
  iapply (wp_seq c); rw [k0_part13_eq_skeleton]; unfold k0_part13_skel
  iapply (recv_step m ρ c 9 (by decide) (recvCond_iff c 9)) $$ HR; iintro %q9 ⟨%h9, HR⟩
  iapply (recv_step m ρ c 10 (by decide) (recvCond_iff c 10)) $$ HR; iintro %q10 ⟨%h10, HR⟩
  iapply (recv_step m ρ c 11 (by decide) (recvCond_iff c 11)) $$ HR; iintro %q11 ⟨%h11, HR⟩
  iapply (recv_step m ρ c 12 (by decide) (recvCond_iff c 12)) $$ HR; iintro %q12 ⟨%h12, HR⟩
  iapply (wp_end c)
  iapply (wp_seq c); rw [k0_part14_eq_skeleton]; unfold k0_part14_skel
  iapply (recv_step m ρ c 13 (by decide) (recvCond_iff c 13)) $$ HR; iintro %q13 ⟨%h13, HR⟩
  iapply (recv_step m ρ c 14 (by decide) (recvCond_iff c 14)) $$ HR; iintro %q14 ⟨%h14, HR⟩
  unfold recvSt
  icases HR with ⟨-, HO, -, Hland⟩
  ihave HD := (done_ready m ρ c) $$ [HatS Hlent]
  · isplitl [HatS] <;> iassumption
  ihave HD : doneSt m ρ c 0 $$ [HD HO]
  · unfold doneSt
    isplitr; · iexact Hw
    isplitl [HO]; · iexact HO
    isplitl [HD]; · iexact HD
    rw [Finset.range_zero, bigSep_empty]; iempintro
  iapply (done_step m ρ c 0 (by decide) (sentCond_iff c 0)) $$ HD; iintro HD
  iapply (done_step m ρ c 1 (by decide) (sentCond_iff c 1)) $$ HD; iintro HD
  iapply (done_step m ρ c 2 (by decide) (sentCond_iff c 2)) $$ HD; iintro HD
  iapply (wp_end c)
  iapply (wp_seq c); rw [k0_part15_eq_skeleton]; unfold k0_part15_skel
  iapply (done_step m ρ c 3 (by decide) (sentCond_iff c 3)) $$ HD; iintro HD
  iapply (done_step m ρ c 4 (by decide) (sentCond_iff c 4)) $$ HD; iintro HD
  iapply (done_step m ρ c 5 (by decide) (sentCond_iff c 5)) $$ HD; iintro HD
  iapply (done_step m ρ c 6 (by decide) (sentCond_iff c 6)) $$ HD; iintro HD
  iapply (done_step m ρ c 7 (by decide) (sentCond_iff c 7)) $$ HD; iintro HD
  iapply (done_step m ρ c 8 (by decide) (sentCond_iff c 8)) $$ HD; iintro HD
  iapply (done_step m ρ c 9 (by decide) (sentCond_iff c 9)) $$ HD; iintro HD
  iapply (wp_end c)
  iapply (done_step m ρ c 10 (by decide) (sentCond_iff c 10)) $$ HD; iintro HD
  iapply (done_step m ρ c 11 (by decide) (sentCond_iff c 11)) $$ HD; iintro HD
  iapply (done_step m ρ c 12 (by decide) (sentCond_iff c 12)) $$ HD; iintro HD
  iapply (done_step m ρ c 13 (by decide) (sentCond_iff c 13)) $$ HD; iintro HD
  iapply (done_step m ρ c 14 (by decide) (sentCond_iff c 14)) $$ HD; iintro HD
  iapply (lift_step c)
  iapply (wp_load 𝒱₀ (c : Thread nD τ) none Set.univ (m := oM) (Finset.subset_univ _)) $$ Hout; iintro Hout
  iapply (lift_step c)
  iapply (wp_store 𝒱₀ (c : Thread nD τ) none Set.univ (m := oM)
    (r := Rect.unit (s := S2048x1024) ![0, 0] S2048x1024.size inb_S2048x1024_S2048x1024_0_0) (Mk := Finset.univ) (Finset.subset_univ _)) $$ Hout; iintro Hout
  rw [write_out]
  iapply (wp_end c)
  have hv : k0_pay1 (k0_pay6 (k0_pay5 (k0_pay4 (xstg m ρ c))))
      (k0_pay11 (word c) (k0_pay10 (word c) (k0_pay9 (word c) (k0_pay8 (word c) k0_pay7 q0 q1 q2 q3) q4 q5 q6 q7) q8 q9 q10 q11) q12 q13 q14) = outAt m ρ c :=
    out_read m ρ c h0 h1 h2 h3 h4 h5 h6 h7 h8 h9 h10 h11 h12 h13 h14
  iapply Hk
  unfold bodyPost Φ₁ scratch doneSt Dat.owesAt Pipeline.owesWithin
  icases HD with ⟨-, HO, -, Hret⟩
  ihave Hret := (returned_split m ρ c) $$ Hret
  icases Hret with ⟨HzS, Hmsg⟩
  ihave Hland := (landed_split c) $$ Hland
  icases Hland with ⟨HzR, Hslots⟩
  ihave Hslots := (slots_join m c) $$ Hslots
  unfold debt
  icases HO with ⟨%W', HO⟩
  rw [show (dats m ρ 0 c).owed t₀.succ = 0 from rfl]
  isplitl [Hkeep Hmsg Hslots HzS HzR HzB]
  · isplitl [Hkeep Hmsg Hslots]
    · isplitl [Hkeep Hmsg]
      · iexists total m ρ c
        iapply ((msg_split m ρ c).2)
        isplitl [Hkeep] <;> iassumption
      iexact Hslots
    isplitl [HzS]; · iexact HzS
    isplitl [HzR] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; exact hv)
  iexact Hout

/-- What the pipeline asks of the body on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => bodyPost m ρ c)
  iintro H
  iapply (sound_body m ρ c fun _ => bodyPost m ρ c)
  isplitl [H]; · iexact H
  iintro H; iexact H

end Cert.PrefixProof

end
-- ==== Proof.Launch.lean ====
/-
The launch: the cells' records and the rights to pay are dealt to the sixteen devices, and the program run from any memory.
-/
module

public import proofs.«01_k».proof.Proof.Body
public import Idealize.ShloMosaic.Lib.Pipeline.CollectiveSegs
public import Idealize.ShloMosaic.Lib.Quiescent

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families of cells -/

/-- The kernel's own semaphores: fifteen for the sends, fifteen for the landings. -/
def osem (i : Fin 30) : SemLoc sig := .dma (dsem (i.val + 2))

/-- The thirty semaphores of the exchange are the kernel's own, each listed once. -/
theorem ownSemFacts : Pipeline.OwnSemFacts cfg0.spec osem := by decide +kernel

omit [FloatOps F] in
/-- A family over `Fin n` is one over the numbers below `n`. -/
theorem fin_range (n : ℕ) (A : ℕ → sProp 𝕄) : bigSep Finset.univ (fun i : Fin n => A i.val) = bigSep (Finset.range n) A := by
  have h : (Finset.univ : Finset (Fin n)).map Fin.valEmbedding = Finset.range n := by
    ext x
    rw [Finset.mem_map, Finset.mem_range]
    exact ⟨fun ⟨i, _, hi⟩ => hi ▸ i.isLt, fun hx => ⟨⟨x, hx⟩, Finset.mem_univ _, rfl⟩⟩
  rw [← h, bigSep_map]; rfl

omit [FloatOps F] in
/-- A run of numbers in two parts. -/
theorem range_parts (a b : ℕ) (A : ℕ → sProp 𝕄) :
    bigSep (Finset.range (a + b)) A = iprop(bigSep (Finset.range a) A ∗ bigSep (Finset.range b) fun k => A (a + k)) := by
  have h : Disjoint (Finset.range a) ((Finset.range b).map (addLeftEmbedding a)) := by
    refine Finset.disjoint_left.mpr fun x hx hx' => ?_
    obtain ⟨y, -, rfl⟩ := Finset.mem_map.mp hx'
    have h1 : a + y < a := Finset.mem_range.mp hx
    omega
  have e : Finset.range (a + b) = Finset.range a ∪ (Finset.range b).map (addLeftEmbedding a) := by
    ext x
    rw [Finset.mem_union, Finset.mem_range, Finset.mem_range, Finset.mem_map]
    constructor
    · intro hx
      rcases Nat.lt_or_ge x a with h1 | h1
      · exact .inl h1
      · exact .inr ⟨x - a, Finset.mem_range.mpr (by omega), by show a + (x - a) = x; omega⟩
    · rintro (h1 | ⟨y, hy, rfl⟩)
      · omega
      · have h1 := Finset.mem_range.mp hy
        show a + y < a + b
        omega
  rw [e, bigSep_union h, bigSep_map]; rfl

omit [FloatOps F] in
/-- The cells of a device: its barrier, its sends, its landings. -/
theorem cells_parts (Ψ : SemLoc sig → sProp 𝕄) : bigSep Finset.univ (fun i : Fin 31 => Ψ (csem i))
    = iprop(Ψ (.reg barS) ∗ (bigSep (Finset.range 15) fun k => Ψ (.dma (dsem (2 + k)))) ∗ bigSep (Finset.range 15) fun k => Ψ (.dma (dsem (17 + k)))) := by
  have h := fin_range (F := F) 31 (fun i => Ψ (if i = 0 then .reg barS else .dma (dsem (i + 1))))
  rw [show (fun i : Fin 31 => Ψ (csem i)) = fun i : Fin 31 => Ψ (if i.val = 0 then .reg barS else .dma (dsem (i.val + 1))) from rfl, h,
    range_parts 1 30, range_parts 15 15, Finset.range_one, bigSep_singleton, if_pos rfl]
  congr 2

omit [FloatOps F] in
/-- The kernel's own semaphores at zero are its sending cells and its landing cells at zero. -/
theorem ownSems0_eq (c : Dev nD) : (Pipeline.ownSems0 (Ix := Unit) (Name := ℕ) (U := UU) (Lvl := ℕ) (Val := Elt F) (τ := τ) osem c : sProp 𝕄)
    = iprop((bigSep (Finset.range 15) fun k => semVal (sendCell c k) 0) ∗ bigSep (Finset.range 15) fun k => semVal (recvCell c k) 0) := by
  unfold Pipeline.ownSems0 osem
  rw [fin_range (F := F) 30 (fun i => semVal ((c : Thread nD τ), .dma (dsem (i + 2))) 0), range_parts 15 15]
  congr 1

omit [FloatOps F] in
/-- The barrier semaphore is the one that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Every window's array is held whole. -/
theorem share_eq (c : Dev nD) (w : Fin cfg0.W) : (dats m ρ 0 c).share w = fullShare := by unfold Dat.share; split <;> rfl

/-! ## The exchange's ghost state at launch -/

/-- The thirty-one semaphores a device uses in the exchange are different. -/
theorem csem_injective : Function.Injective csem := by decide +kernel

/-- So the cells of all the devices are different. -/
theorem kcell_injective : Function.Injective (kcell : Dev nD × Fin 31 → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- All the cells of the exchange. -/
def exCells : Finset (GSem nD τ sig) := Finset.univ.map ⟨kcell, kcell_injective⟩

/-- The rights to pay: for each device fifteen signals, fifteen sends, fifteen landings. -/
abbrev Tok : Type := Fin 15 ⊕ (Fin 15 ⊕ Fin 15)
/-- The cell, round and number of the duty that a right pays. -/
def tokOf (ct : Dev nD × Tok) : GSem nD τ sig × ℕ × ℕ := match ct.2 with
  | .inl j => (barCell ct.1, 0, j.val)
  | .inr (.inl k) => (sendCell ct.1 k.val, 0, 0)
  | .inr (.inr k) => (recvCell ct.1 k.val, 0, 0)

/-- A sending cell tells its device and its number. -/
theorem sendCell_inj {a b : Dev nD} {i j : ℕ} (hi : i < 15) (hj : j < 15) (h : sendCell a i = sendCell b j) : a = b ∧ i = j := by
  refine ⟨congrArg (fun g : GSem nD τ sig => g.1.1) h, ?_⟩
  have := dsem_inj (by omega) (by omega) (SemLoc.dma.inj (congrArg Prod.snd h))
  omega
/-- A landing cell tells its device and its number. -/
theorem recvCell_inj {a b : Dev nD} {i j : ℕ} (hi : i < 15) (hj : j < 15) (h : recvCell a i = recvCell b j) : a = b ∧ i = j := by
  refine ⟨congrArg (fun g : GSem nD τ sig => g.1.1) h, ?_⟩
  have := dsem_inj (by omega) (by omega) (SemLoc.dma.inj (congrArg Prod.snd h))
  omega
/-- No sending cell is a landing cell. -/
theorem send_ne_recv {a b : Dev nD} {i j : ℕ} (hi : i < 15) (hj : j < 15) : sendCell a i ≠ recvCell b j := fun h => by
  have := dsem_inj (by omega) (by omega) (SemLoc.dma.inj (congrArg Prod.snd h))
  omega
/-- No cell of a copy is a barrier cell. -/
theorem dma_ne_bar {a b : Dev nD} {q : DmaSem sig} : ((a : Thread nD τ), SemLoc.dma q) ≠ barCell b := fun h => by
  cases congrArg Prod.snd h

/-- Different rights pay different duties. -/
theorem tokOf_injective : Function.Injective (tokOf : Dev nD × Tok → GSem nD τ sig × ℕ × ℕ) := by
  rintro ⟨c, j | k | k⟩ ⟨c', j' | k' | k'⟩ h <;> have h1 := congrArg Prod.fst h <;> have h2 := congrArg (fun x : GSem nD τ sig × ℕ × ℕ => x.2.2) h
  · have e : c = c' := congrArg (fun g : GSem nD τ sig => g.1.1) h1
    rw [e, show j = j' from Fin.ext h2]
  · exact absurd h1.symm dma_ne_bar
  · exact absurd h1.symm dma_ne_bar
  · exact absurd h1 dma_ne_bar
  · obtain ⟨e1, e2⟩ := sendCell_inj k.isLt k'.isLt h1
    exact congrArg₂ (fun a (b : Fin 15) => ((a, .inr (.inl b)) : Dev nD × Tok)) e1 (Fin.ext e2)
  · exact absurd h1 (send_ne_recv k.isLt k'.isLt)
  · exact absurd h1 dma_ne_bar
  · exact absurd h1.symm (send_ne_recv k'.isLt k.isLt)
  · obtain ⟨e1, e2⟩ := recvCell_inj k.isLt k'.isLt h1
    exact congrArg₂ (fun a (b : Fin 15) => ((a, .inr (.inr b)) : Dev nD × Tok)) e1 (Fin.ext e2)
/-- All the duties for which a right is made at launch. -/
def exToks : Finset (GSem nD τ sig × ℕ × ℕ) := Finset.univ.map ⟨tokOf, tokOf_injective⟩

/-- The ghost state at launch: the pipeline's part and the exchange's part. -/
def u₀ : UU := (initOf (Pipeline.cells cfgs cellOf_inj) (Pipeline.launchToks cfgs cellOf_inj), initOf exCells exToks)

/-- The rights to pay at device `c`'s own cells. -/
def toks (c : Dev nD) : sProp 𝕄 :=
  iprop((bigSep (Finset.range 15) fun j => dutyTok ER (barCell c) 0 j) ∗ (bigSep (Finset.range 15) fun k => dutyTok ER (sendCell c k) 0 0)
    ∗ bigSep (Finset.range 15) fun k => dutyTok ER (recvCell c k) 0 0)

/-- What the launch's ghost state holds for device `c`. -/
def G (c : Dev nD) : sProp 𝕄 :=
  iprop((bigSep Finset.univ fun k : Fin 31 => roundState ER (rd m ρ) (kcell (c, k)) 0)
    ∗ (bigSep Finset.univ fun k : Fin 31 => reached ER (kcell (c, k)) 0)
    ∗ (bigSep Finset.univ fun k : Fin 31 => atPos ER (kcell (c, k)) 0 ∅ 0) ∗ toks c)

omit [FloatOps F] in
/-- To range over the cells is to range over the devices and each one's thirty-one cells. -/
theorem over_cells (Φ : GSem nD τ sig → sProp 𝕄) :
    bigSep exCells Φ = bigSep Finset.univ fun c : Dev nD => bigSep Finset.univ fun k : Fin 31 => Φ (kcell (c, k)) := by
  unfold exCells; rw [bigSep_map, bigSep_univ_prod]; rfl

omit [FloatOps F] in
/-- To range over the rights is to collect, device by device, those at its own cells. -/
theorem over_toks : bigSep exToks (fun x => (dutyTok ER x.1 x.2.1 x.2.2 : sProp 𝕄)) = bigSep Finset.univ fun c : Dev nD => toks c := by
  unfold exToks; rw [bigSep_map, bigSep_univ_prod]
  refine bigSep_congr fun c _ => ?_
  unfold toks
  rw [bigSep_univ_sum, bigSep_univ_sum, ← fin_range, ← fin_range, ← fin_range]
  rfl

/-- The exchange's initial ghost state gives every device its cells and the rights at them. -/
theorem fund : BI.own (ER (initOf exCells exToks)) ⊢ (|==> bigSep Finset.univ (G m ρ) : sProp 𝕄) := by
  iintro HX
  imod (Rounds.fund ER (rd m ρ) exCells exToks) $$ HX with ⟨Hst, Hr, Hat, Htok⟩
  imodintro
  ihave Hst' := (Entails.of_eq (over_cells fun g => roundState ER (rd m ρ) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G; simp only [bigSep_sep']
  isplitl [Hst']; · iexact Hst'
  isplitl [Hr']; · iexact Hr'
  isplitl [Hat']; · iexact Hat'
  iexact Htok'

omit [FloatOps F] in
/-- A device's semaphores at zero are its thirty-one cells at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 31 => semVal (kcell (c, k)) 0 : sProp 𝕄) := by
  rw [ownSems0_eq, unscopedSems0_eq, cells_parts fun s => semVal ((c : Thread nD τ), s) 0]
  iintro ⟨⟨HS, HV⟩, HB⟩
  isplitl [HB]; · iexact HB
  isplitl [HS] <;> iassumption

/-- Device `c`'s cells put under their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 31 => record m ρ (kcell (c, k)))
          ∗ (bigSep Finset.univ fun k : Fin 31 => atPos ER (kcell (c, k)) 0 ∅ 0) ∗ toks c) := by
  unfold G
  iintro ⟨Hos, Hus, Hst, Hr, Hat, Htok⟩
  ihave Hv := (sems0_eq (F := F) c) $$ [Hos Hus]
  · isplitl [Hos] <;> iassumption
  imod (show iprop((bigSep Finset.univ fun k : Fin 31 => semVal (kcell (c, k)) 0) ∗ bigSep Finset.univ fun k : Fin 31 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv Hr]
  · unfold record
    rw [bigSep_sep']
    isplitl [Hinv] <;> iassumption
  isplitl [Hat]; · iexact Hat
  iexact Htok

/-- Device `c`'s places and the rights to pay it uses itself. -/
def linear (c : Dev nD) : sProp 𝕄 :=
  iprop((atPos ER (barCell c) 0 ∅ 0 ∗ (bigSep (Finset.range 15) fun k => atPos ER (sendCell c k) 0 ∅ 0)
      ∗ (bigSep (Finset.range 15) fun k => atPos ER (recvCell c k) 0 ∅ 0))
    ∗ (bigSep (Finset.range 15) fun j => dutyTok ER (barCell (dn c j)) 0 j)
    ∗ (bigSep (Finset.range 15) fun k => dutyTok ER (sendCell c k) 0 0)
    ∗ (bigSep (Finset.range 15) fun k => dutyTok ER (recvCell (up c k) k) 0 0))

/-- What a device takes into the launch: everybody's records, and its own positions and rights. -/
def G' (c : Dev nD) : sProp 𝕄 := iprop(world m ρ ∗ linear c)

omit [FloatOps F] in
/-- A family by device and number, each number's members passed around the mesh. -/
theorem pass_around (f : Dev nD → ℕ → Dev nD) (hf : ∀ k < 15, ∃ e : Dev nD ≃ Dev nD, ∀ c, e c = f c k) (A : Dev nD → ℕ → sProp 𝕄) :
    ∀ n ≤ 15, (bigSep Finset.univ fun c : Dev nD => bigSep (Finset.range n) fun k => A c k)
      = bigSep Finset.univ fun c : Dev nD => bigSep (Finset.range n) fun k => A (f c k) k
  | 0, _ => by simp only [Finset.range_zero, bigSep_empty]
  | n + 1, h => by
    obtain ⟨e, he⟩ := hf n h
    simp only [bigSep_range_succ]
    rw [bigSep_sep', bigSep_sep', pass_around f hf A n (by omega), bigSep_univ_equiv e (fun c => A c n)]
    simp only [he]

omit [FloatOps F] in
/-- The rights to pay go to those who pay. -/
theorem toks_around : (bigSep Finset.univ fun c : Dev nD => (toks c : sProp 𝕄)) = bigSep Finset.univ fun c : Dev nD =>
    iprop((bigSep (Finset.range 15) fun j => dutyTok ER (barCell (dn c j)) 0 j) ∗ (bigSep (Finset.range 15) fun k => dutyTok ER (sendCell c k) 0 0)
      ∗ (bigSep (Finset.range 15) fun k => dutyTok ER (recvCell (up c k) k) 0 0)) := by
  unfold toks
  rw [bigSep_sep', bigSep_sep', bigSep_sep', bigSep_sep',
    pass_around dn (fun k hk => ⟨(upEquiv k hk).symm, fun _ => rfl⟩) (fun c j => dutyTok ER (barCell c) 0 j) 15 le_rfl,
    pass_around up (fun k hk => ⟨upEquiv k hk, fun _ => rfl⟩) (fun c k => dutyTok ER (recvCell c k) 0 0) 15 le_rfl]

/-- The records are shared by all, and each right goes to the device that will use it. -/
theorem regroup :
    (bigSep Finset.univ fun c : Dev nD => iprop((bigSep Finset.univ fun k : Fin 31 => record m ρ (kcell (c, k)))
          ∗ (bigSep Finset.univ fun k : Fin 31 => atPos ER (kcell (c, k)) 0 ∅ 0) ∗ toks c) : sProp 𝕄)
      ⊢ bigSep Finset.univ (G' m ρ) := by
  rw [bigSep_sep', bigSep_sep', ← bigSep_univ_prod (fun ck : Dev nD × Fin 31 => record m ρ (kcell ck)), toks_around,
    bigSep_congr (s := Finset.univ) (fun (c : Dev nD) _ => cells_parts (F := F) fun s => atPos ER ((c : Thread nD τ), s) 0 ∅ 0)]
  have e : bigSep Finset.univ (G' m ρ) = iprop((bigSep Finset.univ fun _ : Dev nD => world m ρ) ∗ bigSep Finset.univ linear) := by
    unfold G'; rw [bigSep_sep']
  rw [e]
  refine sep_mono ?_ (Entails.of_eq (by unfold linear; simp only [bigSep_sep']))
  show world m ρ ⊢ _
  iintro #HW
  iapply (BI.bigSep_of_persistent (Finset.univ : Finset (Dev nD)) (world (F := F) m ρ)); iexact HW

/-- All devices' semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The claims at launch -/

/-- What a device owes at launch: its fifteen signals and the landings of its sends. -/
abbrev O₀ (c : Dev nD) : CellTallies nD τ sig Unit := owesSig c 15

omit [FloatOps F] in
/-- Sends owe nothing to barrier cells. -/
theorem owesSend_bar (d c : Dev nD) : owesSend d 0 (barCell c) () = 0 := by
  by_contra h
  obtain ⟨k, -, e⟩ := owesSend_pos (Nat.pos_of_ne_zero h)
  exact dma_ne_bar e.symm

omit [FloatOps F] in
/-- What one device owes another's barrier: one for each offset at which the second lies. -/
theorem owed_bar (d c : Dev nD) : O₀ d (barCell c) () = ∑ j ∈ Finset.range 15, if d = up c j then 1 else 0 := by
  show owesSig d 15 (barCell c) () = _
  unfold owesSig
  rw [Pi.add_apply, Finsupp.add_apply, owesSend_bar, Nat.zero_add, Finset.sum_apply, Finsupp.finset_sum_apply]
  refine Finset.sum_congr rfl fun j hj => ?_
  have hj := Finset.mem_range.mp hj
  rw [tallyAt_apply]
  by_cases h : d = up c j
  · rw [if_pos h, if_pos ⟨by rw [h, dn_up c hj], rfl⟩]
  · rw [if_neg h, if_neg fun h' => h ?_]
    have e : c = dn d j := congrArg (fun g : GSem nD τ sig => g.1.1) h'.1
    rw [e, up_dn d hj]

omit [FloatOps F] in
/-- What one device owes another's landing cell: a row, if it is the one that sends it. -/
theorem owed_recv (d c : Dev nD) {k : ℕ} (hk : k < 15) : O₀ d (recvCell c k) () = if d = dn c k then (if Recvs c k then N else 0) else 0 := by
  show owesSig d 15 (recvCell c k) () = _
  unfold owesSig owesSend
  rw [Pi.add_apply, Finsupp.add_apply, Finset.sum_apply, Finset.sum_apply, Finsupp.finset_sum_apply, Finsupp.finset_sum_apply,
    Finset.sum_eq_zero (s := Finset.range 15) fun j _ => by rw [tallyAt_ne_cell dma_ne_bar]; rfl, Nat.add_zero,
    Finset.sum_eq_single k]
  · by_cases h : d = dn c k
    · subst h
      rw [if_pos rfl, up_dn c hk]
      by_cases h : Recvs c k
      · rw [if_pos h, if_pos ((sends_dn hk).mpr h), tallyAt_apply, if_pos ⟨rfl, rfl⟩]
      · rw [if_neg h, if_neg fun h' => h ((sends_dn hk).mp h')]; rfl
    · rw [if_neg h]
      split
      · rw [tallyAt_ne_cell]; · rfl
        intro e
        exact h (by rw [(recvCell_inj hk hk e).1, dn_up d hk])
      · rfl
  · intro k' hk' hne
    split
    · rw [tallyAt_ne_cell]; · rfl
      intro e
      exact hne (recvCell_inj hk (Finset.mem_Ico.mp hk').2 e).2.symm
    · rfl
  · intro h; exact absurd (Finset.mem_Ico.mpr ⟨Nat.zero_le _, hk⟩) h

omit [FloatOps F] in
/-- All together, fifteen signals are owed to each barrier. -/
theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun j _ => (Finset.sum_ite_eq' Finset.univ (up c j) fun _ => 1).trans (if_pos (Finset.mem_univ _)),
    Finset.sum_const, Finset.card_range, smul_eq_mul]

omit [FloatOps F] in
/-- All together, a landing cell is owed a row exactly if some device sends there. -/
theorem launch_recv (c : Dev nD) {k : ℕ} (hk : k < 15) :
    tallyOn (recvCell c k) (launchCredit (Pipeline.owing O₀) 0 (recvCell c k))
      = (tallyAt (recvCell c k) () (if Recvs c k then N else 0) : CellTallies nD τ sig Unit) := by
  unfold tallyAt; refine congrArg _ (Finsupp.ext fun u => ?_); cases u
  rw [Pipeline.launchCredit_owing, Finsupp.single_eq_same, Finset.sum_congr rfl fun d _ => owed_recv d c hk,
    Finset.sum_ite_eq' Finset.univ (dn c k) fun _ => if Recvs c k then N else 0, if_pos (Finset.mem_univ _)]

/-- The landing semaphores by number. -/
def recvLoc : Fin 15 ↪ SemLoc sig := ⟨fun k => .dma (dsem (17 + k.val)), by decide +kernel⟩

omit [FloatOps F] in
/-- The launch's credit pays for the barrier wait and for the landings a device waits for. -/
theorem creds (c : Dev nD) : (Pipeline.launchCred O₀ c : sProp 𝕄) ⊢ iprop(cred (tallyAt (barCell c) () 15)
    ∗ bigSep (Finset.range 15) fun k => if Recvs c k then cred (tallyAt (recvCell c k) () N) else iprop(emp)) := by
  unfold Pipeline.launchCred
  rw [bigSep_univ_at _ (SemLoc.reg barS), launch_bar]
  refine sep_mono_right ?_
  refine (bigSep_subset (t := Finset.univ.map recvLoc) (fun s hs => ?_)).trans ?_
  · obtain ⟨k, -, rfl⟩ := Finset.mem_map.mp hs
    exact Finset.mem_erase.mpr ⟨fun h => (by cases h), Finset.mem_univ _⟩
  rw [bigSep_map, ← fin_range]
  refine bigSep_mono fun k _ => ?_
  show cred (tallyOn (recvCell c k.val) (launchCredit (Pipeline.owing O₀) 0 (recvCell c k.val))) ⊢ _
  rw [launch_recv c k.isLt]
  by_cases h : Recvs c k.val
  · rw [if_pos h, if_pos h]
  · rw [if_neg h, if_neg h]
    iintro -; iempintro

/-! ## The side conditions of the launch -/

/-- What the launch hands a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  unfold G' linear
  icases HG with ⟨HW, ⟨HaB, HaS, HaR⟩, HtB, HtS, HtR⟩
  imodintro
  unfold start
  isplitl
  · isplitl [HW]; · iexact HW
    isplitl [Hlev]; · iexact Hlev
    isplitl [HaB]; · iexact HaB
    isplitl [HaS]; · iexact HaS
    isplitl [HaR]; · iexact HaR
    isplitl [HtB]; · iexact HtB
    isplitl [HtS]; · iexact HtS
    isplitl [HtR]; · iexact HtR
    isplitl [H1]; · iexact H1
    iexact HN
  · iempintro

/-- With the scratch buffers it is what holds before the trip. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- What holds after the trip gives back the semaphores at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, HzS, HzV, HzB⟩
  isplitl [HzB]; · iexact HzB
  isplitl [HzS HzV]
  · isplitl [HzS] <;> iassumption
  iexact Hr

/-- The waits of the pipeline come below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The contents of a window's array when the pipeline is done. -/
def finalA (c : Dev nD) (w : Fin cfg0.W) : Buf (Elt F) ((cfg0.win w).arr.view.loc (c : Thread nD τ)) := (dats m ρ 0 c).arrAt w cfg0.N

/-- Every window's array ends at the computed contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values and from any memory with zero semaphores, every fair run of the sixteen devices ends, with each device's
    result as computed, its argument unchanged, and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument ends as it began. -/
theorem finalA_x (c : Dev nD) : finalA m ρ c (0 : Fin 2) = m ((c : Thread nD τ).loc main_arg0) :=
  (dats (F := F) m ρ 0 c).arrAt_in (0 : Fin 2) rfl _

end Cert.PrefixProof

end
-- ==== Proof.Frames.lean ====
/-
The frame claims: every run ends, the argument is unchanged, and every semaphore is back at zero.
-/
module

public import proofs.«01_k».proof.Proof.Launch
public import proofs.«01_k».proof.Defs
public import proofs.«01_k».proof.Proof.Gen.Kernel
public import proofs.«01_k».proof.Proof.Gen.ReferenceIdeal.Run

@[expose] public section

noncomputable section

namespace Cert.PrefixProof

open Idealize.ShloMosaic Idealize.SL.Sem

/-- The one text at any float values: the argument is unchanged and the semaphores are at zero. -/
theorem frame_any {F : FTy → Type} [FloatOps F] (m : (ℓ : Loc KernelIdeal.nD KernelIdeal.τ KernelIdeal.sig) → Buf (Elt F) ℓ)
    (ρ : Dev KernelIdeal.nD → PrngReg) :
    θ_run (KernelIdeal.defs (F := F)) (onTc (τ := KernelIdeal.τ) KernelIdeal.main) ⟨m, fun _ => 0, ρ⟩
      (fun r => (∀ c : Dev KernelIdeal.nD, r.2.mem (c.tc.loc KernelIdeal.main_arg0) = m (c.tc.loc KernelIdeal.main_arg0)) ∧
        r.2.sem = fun _ => 0) :=
  (θ_run KernelIdeal.defs _ _).mono (fun _ h => ⟨fun c => (h.1 c 0).trans (finalA_x m ρ c), h.2⟩) (run_main m ρ)

/-- The kernel at exact values. -/
theorem frame_ideal : Cert.quiescent_KernelIdeal := fun m ρ _ => frame_any (F := Ideal) m ρ

/-- The two programs' body tables are one table: the text of every function is the same. -/
theorem bodies_eq {F : FTy → Type} [FloatOps F] : Kernel.defs₀ (F := F) = KernelIdeal.defs₀ (F := F) := by
  unfold Kernel.defs₀ KernelIdeal.defs₀
  refine congrArg Defs.onTc ?_
  funext l a
  match l, a with
  | 0, (_, _) => rfl

/-- With the pipelines' labels added they are still one table. -/
theorem tables_eq {F : FTy → Type} [FloatOps F] : Kernel.defs (F := F) = KernelIdeal.defs (F := F) :=
  congrArg (Pipeline.defs (KernelIdeal.pcfgs (F := F))) bodies_eq

/-- The kernel at machine floats: its text is the same, so the same run. -/
theorem frame_kernel : Cert.quiescent_Kernel := fun m ρ _ => by
  rw [tables_eq]
  exact frame_any (F := Bits) m ρ

/-- The reference: one device, no semaphores. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

end Cert.PrefixProof

end
-- ==== Proof.Scan.lean ====
/-
The values over the extended reals: what a column of the kernel's prefix products and of its block's total is.
A matrix of `n` rows is read as one function of the row per column, with the value one past the last row.
-/
module

public import proofs.«01_k».proof.Proof.Launch
public import Idealize.ShloMosaic.Lib.IdealHost
public import Idealize.ShloMosaic.Lib.Pipeline.Value

@[expose] public section

noncomputable section

namespace Cert.PrefixProof

open Cert.KernelIdeal Cert.KernelIdeal.Gen
open Idealize.ShloMosaic Finset

/-- Row `r`, column `j` of a matrix of `n` rows. -/
def at2 {n : ℕ} (r : Fin n) (j : Fin 1024) : (⟨2, ![n, 1024]⟩ : Shape).Idx := fun a =>
  match a with
  | ⟨0, _⟩ => r
  | ⟨1, _⟩ => j

/-- A matrix of `n` rows. -/
abbrev Mat (n : ℕ) : Type := FVec Ideal (⟨2, ![n, 1024]⟩ : Shape) .f32

/-- Every index is a row and a column. -/
theorem at2_eta {n : ℕ} (i : (⟨2, ![n, 1024]⟩ : Shape).Idx) : at2 (i 0) (i 1) = i :=
  funext fun a => match a with
    | ⟨0, _⟩ => rfl
    | ⟨1, _⟩ => rfl

/-- Column `j` of a matrix as a function of the row, one past the end. -/
def col {n : ℕ} (v : Mat n) (j : Fin 1024) (i : ℕ) : EReal := if h : i < n then v (at2 ⟨i, h⟩ j) else 1

/-- Inside the matrix, a column's entry is the matrix's. -/
theorem col_of_lt {n : ℕ} (v : Mat n) (j : Fin 1024) {i : ℕ} (h : i < n) : col v j i = v (at2 ⟨i, h⟩ j) := dif_pos h

/-- The kernel's literal one. -/
theorem one_word : (Scalar.ofBits .f32 0x3F800000#32 : Ideal .f32) = (1 : EReal) := Ideal.ofBits_one_f32

/-- A slice of whole rows. -/
theorem slice_col {n k : ℕ} (o : ℕ) (v : Mat n) (h : Shape.Slices ⟨2, ![n, 1024]⟩ ![o, 0] ⟨2, ![k, 1024]⟩) (j : Fin 1024)
    {i : ℕ} (hi : i < k) : col (extractStridedSlice ⟨2, ![k, 1024]⟩ ![o, 0] v h : Mat k) j i = col v j (o + i) := by
  have hn : o + k ≤ n := h.2 0
  rw [col_of_lt _ _ hi, col_of_lt _ _ (by omega : o + i < n)]
  refine extractStridedSlice_apply _ _ _ _ _ fun a => ?_
  match a with
  | ⟨0, _⟩ => rfl
  | ⟨1, _⟩ => exact (Nat.zero_add _).symm

/-! ## The prefix products -/

/-- Row `r` of `v` is the product of the last `d` rows of `x` that end at row `r`, or of all of them where there are fewer. -/
def Scanned {n : ℕ} (x : Mat n) (d : ℕ) (v : Mat n) : Prop :=
  ∀ (j : Fin 1024) (r : ℕ), r < n → col v j r = ∏ i ∈ Ico (r + 1 - d) (r + 1), col x j i

/-- At first each row holds the product of itself alone. -/
theorem Scanned.start {n : ℕ} (x : Mat n) : Scanned x 1 x := fun j r _ => by
  rw [Nat.add_sub_cancel, Nat.Ico_succ_singleton, prod_singleton]

/-- One step: times itself moved `d` rows down, ones moved in, doubles the reach. -/
theorem Scanned.step {n d : ℕ} {x v : Mat n} (e : ℕ) (hv : Scanned x d v) (hs : Shape.Slices ⟨2, ![n, 1024]⟩ ![0, 0] ⟨2, ![e, 1024]⟩)
    (hc : Shape.Concatenates [⟨2, ![d, 1024]⟩, ⟨2, ![e, 1024]⟩] ⟨2, ![n, 1024]⟩ 0) :
    Scanned x (d + d) (mulf v (concatenate ⟨2, ![n, 1024]⟩ 0
      [⟨⟨2, ![d, 1024]⟩, broadcast ⟨2, ![d, 1024]⟩ (Scalar.ofBits .f32 0x3F800000#32 : Ideal .f32)⟩,
        ⟨⟨2, ![e, 1024]⟩, extractStridedSlice ⟨2, ![e, 1024]⟩ ![0, 0] v hs⟩] hc)) := fun j r hr => by
  have hn : d + (e + 0) = n := hc.2.2
  rw [col_of_lt _ _ hr]
  show (v (at2 ⟨r, hr⟩ j) : EReal) * _ = _
  rw [← col_of_lt v j hr, hv j r hr]
  by_cases h : r < d
  · rw [concatenate_pair_apply_left (s₁ := ⟨2, ![d, 1024]⟩) (s₂ := ⟨2, ![e, 1024]⟩) _ _ _ hc (at2 ⟨r, hr⟩ j) rfl (at2 ⟨r, h⟩ j)
      (fun b => match b with | ⟨0, _⟩ => rfl | ⟨1, _⟩ => rfl)]
    show _ * (Scalar.ofBits .f32 0x3F800000#32 : Ideal .f32) = _
    rw [one_word, mul_one, show r + 1 - (d + d) = r + 1 - d by omega]
  · have he : r - d < e := by omega
    rw [concatenate_pair_apply_right (s₁ := ⟨2, ![d, 1024]⟩) (s₂ := ⟨2, ![e, 1024]⟩) _ _ _ hc (at2 ⟨r, hr⟩ j) rfl rfl (at2 ⟨r - d, he⟩ j)
      (fun b hb => match b with | ⟨0, _⟩ => absurd rfl hb | ⟨1, _⟩ => rfl) (Nat.sub_add_cancel (Nat.not_lt.1 h)),
      ← col_of_lt (extractStridedSlice ⟨2, ![e, 1024]⟩ ![0, 0] v hs : Mat e) j he, slice_col 0 v hs j he, Nat.zero_add,
      hv j (r - d) (by omega), mul_comm, show r - d + 1 = r + 1 - d by omega, show r + 1 - d - d = r + 1 - (d + d) by omega,
      prod_Ico_consecutive _ (by omega) (by omega)]

/-- The kernel's eleven steps: row `r` is the product of the rows up to it. -/
theorem prefix_col (x : Mat 2048) (j : Fin 1024) {r : ℕ} (hr : r < 2048) :
    col (k0_pay6 (k0_pay5 (k0_pay4 x)) : Mat 2048) j r = ∏ i ∈ range (r + 1), col x j i := by
  have h0 : k0_pay2 x = x := shapeCast_self _ _
  have h1 : Scanned x 1 (k0_pay2 x) := h0.symm ▸ Scanned.start x
  have h4 : Scanned x 4 (k0_pay4 x) := (h1.step 2047 slices_S2048x1024_o0_0_S2047x1024 concatenates_S1x1024_S2047x1024_S2048x1024_d0).step
    2046 slices_S2048x1024_o0_0_S2046x1024 concatenates_S2x1024_S2046x1024_S2048x1024_d0
  have h512 : Scanned x 512 (k0_pay5 (k0_pay4 x)) := ((((((h4.step 2044 slices_S2048x1024_o0_0_S2044x1024 concatenates_S4x1024_S2044x1024_S2048x1024_d0).step
    2040 slices_S2048x1024_o0_0_S2040x1024 concatenates_S8x1024_S2040x1024_S2048x1024_d0).step
    2032 slices_S2048x1024_o0_0_S2032x1024 concatenates_S16x1024_S2032x1024_S2048x1024_d0).step
    2016 slices_S2048x1024_o0_0_S2016x1024 concatenates_S32x1024_S2016x1024_S2048x1024_d0).step
    1984 slices_S2048x1024_o0_0_S1984x1024 concatenates_S64x1024_S1984x1024_S2048x1024_d0).step
    1920 slices_S2048x1024_o0_0_S1920x1024 concatenates_S128x1024_S1920x1024_S2048x1024_d0).step
    1792 slices_S2048x1024_o0_0_S1792x1024 concatenates_S256x1024_S1792x1024_S2048x1024_d0
  have h2048 : Scanned x 2048 (k0_pay6 (k0_pay5 (k0_pay4 x))) :=
    (h512.step 1536 slices_S2048x1024_o0_0_S1536x1024 concatenates_S512x1024_S1536x1024_S2048x1024_d0).step
      1024 slices_S2048x1024_o0_0_S1024x1024 concatenates_S1024x1024_S1024x1024_S2048x1024_d0
  rw [h2048 j r hr, show r + 1 - 2048 = 0 by omega, range_eq_Ico]

/-! ## The total of a block -/

/-- The product of `v`'s rows is the product of `x`'s. -/
def Folded {n : ℕ} (x : Mat 2048) (v : Mat n) : Prop :=
  ∀ j : Fin 1024, ∏ i ∈ range n, col v j i = ∏ i ∈ range 2048, col x j i

/-- One halving: the first half times the second. -/
theorem Folded.halve {k : ℕ} {x : Mat 2048} {v : Mat (k + k)} (hv : Folded x v)
    (ha : Shape.Slices ⟨2, ![k + k, 1024]⟩ ![0, 0] ⟨2, ![k, 1024]⟩) (hb : Shape.Slices ⟨2, ![k + k, 1024]⟩ ![k, 0] ⟨2, ![k, 1024]⟩) :
    Folded x (mulf (extractStridedSlice ⟨2, ![k, 1024]⟩ ![0, 0] v ha) (extractStridedSlice ⟨2, ![k, 1024]⟩ ![k, 0] v hb) : Mat k) := fun j => by
  rw [← hv j, prod_range_add, ← prod_mul_distrib]
  refine prod_congr rfl fun i hi => ?_
  have hi := mem_range.1 hi
  rw [col_of_lt _ _ hi, ← slice_col k v hb j hi, col_of_lt _ _ hi, show col v j i = col v j (0 + i) by rw [Nat.zero_add],
    ← slice_col 0 v ha j hi, col_of_lt _ _ hi]
  rfl

/-- A cast to the same shape changes nothing. -/
theorem Folded.recast {k : ℕ} {x : Mat 2048} {v : Mat k} (hv : Folded x v) (h : Shape.ShapeCasts ⟨2, ![k, 1024]⟩ ⟨2, ![k, 1024]⟩) :
    Folded x (shapeCast ⟨2, ![k, 1024]⟩ v h : Mat k) := by
  rw [shapeCast_self]
  exact hv

/-- The kernel's eleven halvings: the one row is the product of all rows. -/
theorem total_col (x : Mat 2048) (j : Fin 1024) :
    (k0_pay3 x : Mat 1) (at2 0 j) = (∏ i ∈ range 2048, col x j i : EReal) := by
  have h0 : k0_pay2 x = x := shapeCast_self _ _
  have h1 : Folded x (n := 1024 + 1024) (k0_pay2 x) := fun j => by rw [h0]
  have h : Folded x (n := 1) (k0_pay3 x) := by
    exact Folded.recast (((((((((((h1.halve (k := 1024) slices_S2048x1024_o0_0_S1024x1024 slices_S2048x1024_o1024_0_S1024x1024).halve (k := 512)
      slices_S1024x1024_o0_0_S512x1024 slices_S1024x1024_o512_0_S512x1024).halve (k := 256)
      slices_S512x1024_o0_0_S256x1024 slices_S512x1024_o256_0_S256x1024).halve (k := 128)
      slices_S256x1024_o0_0_S128x1024 slices_S256x1024_o128_0_S128x1024).halve (k := 64)
      slices_S128x1024_o0_0_S64x1024 slices_S128x1024_o64_0_S64x1024).halve (k := 32)
      slices_S64x1024_o0_0_S32x1024 slices_S64x1024_o32_0_S32x1024).halve (k := 16)
      slices_S32x1024_o0_0_S16x1024 slices_S32x1024_o16_0_S16x1024).halve (k := 8)
      slices_S16x1024_o0_0_S8x1024 slices_S16x1024_o8_0_S8x1024).halve (k := 4)
      slices_S8x1024_o0_0_S4x1024 slices_S8x1024_o4_0_S4x1024).halve (k := 2)
      slices_S4x1024_o0_0_S2x1024 slices_S4x1024_o2_0_S2x1024).halve (k := 1)
      slices_S2x1024_o0_0_S1x1024 slices_S2x1024_o1_0_S1x1024) _
  rw [← h j, prod_range_one, col_of_lt _ _ Nat.one_pos]
  rfl

end Cert.PrefixProof

end
-- ==== Proof.Value.lean ====
/-
The kernel's result over the extended reals: row `r` of device `c` is the product of the first `2048·c + r + 1` rows of the
whole array.
-/
module

public import proofs.«01_k».proof.Proof.Scan
public import Idealize.ShloMosaic.Lib.Layout

@[expose] public section

noncomputable section

namespace Cert.PrefixProof

open Cert.KernelIdeal Cert.KernelIdeal.Gen
open Idealize.ShloMosaic Idealize.ShloMosaic.TcCoe Finset

section Any
variable {F : FTy → Type} [FloatOps F]
variable (m : (ℓ : Loc nD τ sig) → Buf (Elt F) ℓ) (ρ : Dev nD → PrngReg)

omit [FloatOps F] in
/-- The argument's one block is the argument. -/
theorem read_block_x (f : (main_arg0 : Ref sig .tc).ty.Contents (Elt F)) : (win0_0.blk (0 : Fin 1)).view.read (Elt F) f = f :=
  funext fun i => congrArg f (funext fun a => Fin.ext (by
    match a with
    | ⟨0, _⟩ => exact (Nat.zero_add _).trans (Nat.one_mul _)
    | ⟨1, _⟩ => exact (Nat.zero_add _).trans (Nat.one_mul _)))

omit [FloatOps F] in
/-- The result's one block is the result. -/
theorem read_block_o (f : (main_v1 : Ref sig .tc).ty.Contents (Elt F)) : (win0_1.blk (0 : Fin 1)).view.read (Elt F) f = f :=
  funext fun i => congrArg f (funext fun a => Fin.ext (by
    match a with
    | ⟨0, _⟩ => exact (Nat.zero_add _).trans (Nat.one_mul _)
    | ⟨1, _⟩ => exact (Nat.zero_add _).trans (Nat.one_mul _)))

/-- What the body reads is the argument. -/
theorem xstg_eq (c : Dev nD) : xstg m ρ c = m ((c : Thread nD τ).loc main_arg0) := read_block_x _

/-- The result ends as the body computed it: its one block was written whole. -/
theorem finalA_o (c : Dev nD) : finalA m ρ c (1 : Fin 2) = outAt m ρ c := by
  have last : finalA m ρ c (1 : Fin 2) = _ := ((dats m ρ 0 c).arrAt_succ (1 : Fin 2) (0 : Fin 1)).trans (if_pos (by decide))
  rw [← read_block_o (finalA m ρ c (1 : Fin 2)), last]
  exact View.read_write_univ _ _

end Any

variable (m : (ℓ : Loc nD τ sig) → Buf (Elt Ideal) ℓ) (ρ : Dev nD → PrngReg)

/-- Every device's argument is its block of `X`. -/
def Blocks (X : Mat 32768) : Prop :=
  ∀ c : Dev nD, m ((c : Thread nD τ).loc main_arg0) = Layout.block ⟨2, ![2048, 1024]⟩ ⟨2, ![32768, 1024]⟩ 0 16 c X

variable {m} {X : Mat 32768}

/-- Row `r` of block `c` is row `2048·c + r` of the whole. -/
theorem block_at2 (Y : Mat 32768) (c : Fin 16) {r : ℕ} (hr : r < 2048) (hR : 2048 * c.val + r < 32768) (j : Fin 1024) :
    (Layout.block ⟨2, ![2048, 1024]⟩ ⟨2, ![32768, 1024]⟩ 0 16 c Y : Mat 2048) (at2 ⟨r, hr⟩ j) = Y (at2 ⟨2048 * c.val + r, hR⟩ j) :=
  congrArg Y (funext fun a => Fin.ext (match a with
    | ⟨0, _⟩ => congrArg (· + r) (Nat.mul_comm c.val 2048)
    | ⟨1, _⟩ => rfl))

/-- The same by columns. -/
theorem xstg_col (h : Blocks m X) (c : Dev nD) (j : Fin 1024) {i : ℕ} (hi : i < 2048) :
    col (xstg m ρ c : Mat 2048) j i = col X j (2048 * c.val + i) := by
  have hc : c.val < 16 := c.isLt
  rw [col_of_lt _ _ hi, col_of_lt _ _ (by omega : 2048 * c.val + i < 32768), xstg_eq, h c]
  exact block_at2 X c hi _ j

/-- A device's total is the product of its rows of the whole array. -/
theorem total_block (h : Blocks m X) (c : Dev nD) (j : Fin 1024) :
    (total m ρ c : Mat 1) (at2 0 j) = (∏ i ∈ Ico (2048 * c.val) (2048 * (c.val + 1)), col X j i : EReal) := by
  refine (total_col (xstg m ρ c : Mat 2048) j).trans ?_
  rw [prod_Ico_eq_prod_range, show 2048 * (c.val + 1) - 2048 * c.val = 2048 by omega]
  exact prod_congr rfl fun i hi => xstg_col ρ h c j (mem_range.1 hi)

/-- After `n` slots the running factor is the product of the rows of the `n` devices below, or of all rows below. -/
theorem below_col (h : Blocks m X) (c : Dev nD) (j : Fin 1024) : ∀ n : ℕ, n ≤ 15 →
    (below m ρ c n : Mat 1) (at2 0 j) = (∏ i ∈ Ico (2048 * (c.val - n)) (2048 * c.val), col X j i : EReal)
  | 0, _ => by
    rw [Nat.sub_zero, Ico_self, prod_empty]
    exact one_word
  | n + 1, hn => by
    have hc : c.val < 16 := c.isLt
    have ih := below_col h c j n (by omega)
    have ht := recvTest_iff c ⟨n, hn⟩
    by_cases hr : Recvs c n
    · have hr' : n + 1 ≤ c.val := hr
      have hd : (dn c n).val = c.val - (n + 1) := by simp only [dn]; omega
      have e : (below m ρ c (n + 1) : Mat 1) = mulf (below m ρ c n) (total m ρ (dn c n)) := if_pos (ht.2 hr)
      rw [e]
      show ((below m ρ c n : Mat 1) (at2 0 j) : EReal) * (total m ρ (dn c n) : Mat 1) (at2 0 j) = _
      rw [ih, total_block ρ h, hd, mul_comm, show c.val - (n + 1) + 1 = c.val - n by omega,
        prod_Ico_consecutive _ (by omega) (by omega)]
    · have hr' : ¬ n + 1 ≤ c.val := hr
      have e : (below m ρ c (n + 1) : Mat 1) = below m ρ c n := if_neg fun x => hr (ht.1 x)
      rw [e, ih, show c.val - (n + 1) = c.val - n by omega]

/-- The kernel's result: row `r` of device `c` is the product of the whole array's rows up to row `2048·c + r`. -/
theorem out_col (h : Blocks m X) (c : Dev nD) (j : Fin 1024) {r : ℕ} (hr : r < 2048) :
    (outAt m ρ c : Mat 2048) (at2 ⟨r, hr⟩ j) = (∏ i ∈ range (2048 * c.val + r + 1), col X j i : EReal) := by
  have hc : c.val < 16 := c.isLt
  have hp := prefix_col (xstg m ρ c) j hr
  rw [col_of_lt _ _ hr] at hp
  show ((k0_pay6 (k0_pay5 (k0_pay4 (xstg m ρ c))) : Mat 2048) (at2 ⟨r, hr⟩ j) : EReal)
    * (broadcastTo S2048x1024 (below m ρ c 15) broadcasts_S1x1024_S2048x1024 : Mat 2048) (at2 ⟨r, hr⟩ j) = _
  rw [hp, broadcastTo_apply (below m ρ c 15) broadcasts_S1x1024_S2048x1024 (at2 ⟨r, hr⟩ j) (at2 0 j)
      (fun a => match a with | ⟨0, _⟩ => rfl | ⟨1, _⟩ => rfl)]
  rw [below_col ρ h c j 15 le_rfl, show c.val - 15 = 0 by omega, Nat.mul_zero, ← range_eq_Ico, Nat.add_assoc, prod_range_add _ (2048 * c.val), mul_comm]
  refine congrArg _ (prod_congr rfl fun i hi => xstg_col ρ h c j ?_)
  have := mem_range.1 hi
  omega

end Cert.PrefixProof

end
-- ==== Proof.RefValue.lean ====
/-
The reference's loop over the extended reals: after `n` trips the carry is the product of the first `n` rows, and each row of the
result up to there is the product of the rows that end at it.
-/
module

public import proofs.«01_k».proof.Proof.Scan
public import proofs.«01_k».proof.Proof.Gen.ReferenceIdeal.Run
public import Idealize.ShloMosaic.Lib.Pointwise.ShapeOpsCore

@[expose] public section

noncomputable section

namespace Cert.PrefixProof.Ref

open Cert.ReferenceIdeal Cert.ReferenceIdeal.Gen Cert.ReferenceIdeal.Value
open Idealize.ShloMosaic Idealize.ShloMosaic.TcCoe Idealize.ShloMosaic.Tactic Idealize.ShloMosaic.StableHlo Idealize.SL.Sem Finset

/-- Column `j` of a single row. -/
def pt (j : Fin 1024) : S1024.Idx := fun a =>
  match a with
  | ⟨0, _⟩ => j

/-- A clamped start that is in range is the start: on the rows `n`, on the columns `0`. -/
theorem clamped {st : Fin 2 → Int} {n : ℕ} (hn : n < 32768) (h0 : st 0 = n) (h1 : st 1 = 0)
    (h : (⟨2, ![1, 1024]⟩ : Shape).rank = (⟨2, ![32768, 1024]⟩ : Shape).rank) :
    Host.clampedStart ⟨2, ![32768, 1024]⟩ ⟨2, ![1, 1024]⟩ h st (0 : Fin 2) = n
      ∧ Host.clampedStart ⟨2, ![32768, 1024]⟩ ⟨2, ![1, 1024]⟩ h st (1 : Fin 2) = 0 :=
  ⟨Host.clampedStart_of_le h st (0 : Fin 2) n h0 (show n + 1 ≤ 32768 by omega), Host.clampedStart_of_le h st (1 : Fin 2) 0 h1 (le_refl 1024)⟩

/-- The row taken at a start in range. -/
theorem row_read (x : Mat 32768) {st : Fin 2 → Int} {n : ℕ} (hn : n < 32768) (h0 : st 0 = n) (h1 : st 1 = 0)
    (h : Shape.Slices ⟨2, ![32768, 1024]⟩ (fun _ => 0) ⟨2, ![1, 1024]⟩) (j : Fin 1024) :
    (Host.dynamicSlice ⟨2, ![1, 1024]⟩ x st h : Mat 1) (at2 0 j) = x (at2 ⟨n, hn⟩ j) := by
  have hc := clamped hn h0 h1 h.1
  rw [Host.dynamicSlice_apply]
  refine congrArg x (funext fun a => Fin.ext ?_)
  match a with
  | ⟨0, _⟩ => exact hc.1
  | ⟨1, _⟩ => exact (congrArg (· + j.val) hc.2).trans (Nat.zero_add _)

/-- A row put in at a start in range: that row is the new one, the others are as they were. -/
theorem row_write (x : Mat 32768) (u : Mat 1) {st : Fin 2 → Int} {n : ℕ} (hn : n < 32768) (h0 : st 0 = n) (h1 : st 1 = 0)
    (h : Shape.Slices ⟨2, ![32768, 1024]⟩ (fun _ => 0) ⟨2, ![1, 1024]⟩) {r : ℕ} (hr : r < 32768) (j : Fin 1024) :
    (Host.dynamicUpdateSlice x u st h : Mat 32768) (at2 ⟨r, hr⟩ j) = if r = n then u (at2 0 j) else x (at2 ⟨r, hr⟩ j) := by
  have hc := clamped hn h0 h1 h.1
  rw [Host.dynamicUpdateSlice_apply]
  by_cases e : r = n
  · rw [if_pos e, dif_pos]
    · refine congrArg u (funext fun a => Fin.ext ?_)
      match a with
      | ⟨0, _⟩ => exact (congrArg (r - ·) hc.1).trans (show r - n = 0 by omega)
      | ⟨1, _⟩ => exact congrArg (j.val - ·) hc.2
    · intro a
      match a with
      | ⟨0, _⟩ => exact ⟨(hc.1.trans e.symm).le, show r < _ + 1 from Nat.lt_succ_of_le (hc.1.trans e.symm).ge⟩
      | ⟨1, _⟩ => exact ⟨hc.2.le.trans (Nat.zero_le _), j.isLt.trans_le (Nat.le_add_left _ _)⟩
  · rw [if_neg e, dif_neg]
    intro H
    have ha := (H (0 : Fin 2)).1
    have hb := (H (0 : Fin 2)).2
    rw [hc.1] at ha hb
    have ha' : n ≤ r := ha
    have hb' : r < n + 1 := hb
    omega

/-- Before trip `n`: the operand, the counter, the carry and the rows written so far. -/
structure At (X : Mat 32768) (n : ℕ) (V : Valuation τ sig (Elt Ideal)) : Prop where
  operand : V (Proc.devRef .tc main_v2_0) = X
  counter : V (Proc.devRef .tc main_v2_1) = fun _ => BitVec.ofNat 32 n
  carry : ∀ j, (V (Proc.devRef .tc main_v2_2) : FVec Ideal S1024 .f32) (pt j) = (∏ i ∈ range n, col X j i : EReal)
  rows : ∀ (j : Fin 1024) (r : ℕ) (hr : r < 32768), r < n →
    (V (Proc.devRef .tc main_v2_3) : Mat 32768) (at2 ⟨r, hr⟩ j) = (∏ i ∈ range (r + 1), col X j i : EReal)

/-- The counter as an integer. -/
theorem counter_int {n : ℕ} (hn : n < 32768) : (BitVec.ofNat 32 n).toInt = (n : Int) := by
  rw [BitVec.toInt_ofNat', Int.bmod_eq_of_le] <;> omega

/-- One trip's carry is the product with one row more. -/
theorem At.next_carry {X : Mat 32768} {n : ℕ} {V : Valuation τ sig (Elt Ideal)} (h : At X n V) (hn : n < 32768) (j : Fin 1024) :
    (res_main_while0b_v4 V : FVec Ideal S1024 .f32) (pt j) = (∏ i ∈ range (n + 1), col X j i : EReal) := by
  unfold res_main_while0b_v4
  rw [h.operand, h.counter]
  refine (congrArg₂ (fun a b : EReal => a * b) (h.carry j) ((shapeCast_dropUnit_apply ![1024] _ _ (pt j)).trans
    ((congrArg _ (funext fun a => ?_)).trans (row_read X hn (counter_int hn) rfl sliceFits_S32768x1024_S1x1024 j)))).trans ?_
  · match a with
    | ⟨0, _⟩ => rfl
    | ⟨1, _⟩ => rfl
  · rw [prod_range_succ, col_of_lt _ _ hn]

/-- One trip. -/
theorem At.step {X : Mat 32768} {n : ℕ} {V : Valuation τ sig (Elt Ideal)} (h : At X n V) (hn : n < 32768) : At X (n + 1) (STEP V) where
  operand := (STEP_main_v2_0 V).trans h.operand
  counter := by
    rw [STEP_main_v2_1]
    unfold step_main_v2_1
    rw [h.counter]
    exact funext fun _ => (BitVec.ofNat_add n 1).symm
  carry j := by
    rw [STEP_main_v2_2]
    exact h.next_carry hn j
  rows j r hr hrn := by
    rw [STEP_main_v2_3]
    unfold step_main_v2_3
    rw [h.counter]
    refine (row_write _ _ hn (counter_int hn) rfl updateFits_S32768x1024_S1x1024 hr j).trans ?_
    by_cases e : r = n
    · rw [if_pos e, e]
      refine (broadcastInDim_apply _ _ _ _ (pt j) fun a => ?_).trans (h.next_carry hn j)
      match a with
      | ⟨0, _⟩ => rfl
    · rw [if_neg e]
      exact h.rows j r hr (by omega)

variable (m : (ℓ : Loc nD τ sig) → Buf (Elt Ideal) ℓ)

/-- Where the loop begins. -/
theorem at_entry (c : Dev nD) : At (m ((c : Thread nD τ).loc main_arg0)) 0 (entryContents preI m c) where
  operand := by
    simp only [entryContents, afterL_cons, afterL_nil]
    after_reads_simp
    rfl
  counter := ctr_entry m c
  carry j := by
    have e : entryContents preI m c (Proc.devRef .tc main_v2_2)
        = broadcastInDim S1024 ![] bcast_S_S1024 (constant (F := Ideal) S_ .f32 0x3F800000#32) := by
      simp only [entryContents, afterL_cons, afterL_nil]
      after_reads_simp
      rfl
    rw [e, range_zero, prod_empty]
    exact one_word
  rows j r hr h := absurd h (Nat.not_lt_zero r)

/-- After `n` trips. -/
theorem at_trips (c : Dev nD) : ∀ n : ℕ, n ≤ 32768 → At (m ((c : Thread nD τ).loc main_arg0)) n (STEP^[n] (entryContents preI m c))
  | 0, _ => at_entry m c
  | n + 1, hn => by
    rw [Function.iterate_succ_apply']
    exact (at_trips c n (by omega)).step hn

/-- The reference's result. -/
def result (c : Dev nD) : Mat 32768 := STEP^[32768] (entryContents preI m c) (Proc.devRef .tc main_v2_3)

/-- Its row `r` is the product of the rows up to it. -/
theorem result_col (c : Dev nD) (j : Fin 1024) {r : ℕ} (hr : r < 32768) :
    result m c (at2 ⟨r, hr⟩ j) = (∏ i ∈ range (r + 1), col (m ((c : Thread nD τ).loc main_arg0) : Mat 32768) j i : EReal) :=
  (at_trips m c 32768 le_rfl).rows j r hr hr

end Cert.PrefixProof.Ref

end
-- ==== Proof.Algebraic.lean ====
/-
Over the extended reals the kernel's result on device `c` is block `c` of the reference's result.
-/
module

public import proofs.«01_k».proof.Proof.Value
public import proofs.«01_k».proof.Proof.RefValue
public import proofs.«01_k».proof.Defs

@[expose] public section

noncomputable section

namespace Cert.PrefixProof

open Idealize.ShloMosaic Idealize.ShloMosaic.TcCoe Idealize.SL.Sem

/-- Device `c`'s result is its block of the reference's result: both rows are the product of the whole array's rows so far. -/
theorem out_block (m : (ℓ : Loc KernelIdeal.nD KernelIdeal.τ KernelIdeal.sig) → Buf (Elt Ideal) ℓ) (ρ : Dev KernelIdeal.nD → PrngReg)
    (m' : (ℓ : Loc ReferenceIdeal.nD ReferenceIdeal.τ ReferenceIdeal.sig) → Buf (Elt Ideal) ℓ)
    (h : Blocks m (m' (((0 : Dev ReferenceIdeal.nD) : Thread ReferenceIdeal.nD ReferenceIdeal.τ).loc ReferenceIdeal.main_arg0)))
    (c : Dev KernelIdeal.nD) :
    outAt m ρ c = Layout.block ⟨2, ![2048, 1024]⟩ ⟨2, ![32768, 1024]⟩ 0 16 c (Ref.result m' 0) := by
  have hc : c.val < 16 := c.isLt
  refine funext fun i => ?_
  obtain ⟨r, hr, j, rfl⟩ : ∃ r, ∃ hr : r < 2048, ∃ j, i = (at2 ⟨r, hr⟩ j : (⟨2, ![2048, 1024]⟩ : Shape).Idx) :=
    ⟨_, (i 0).isLt, i 1, (at2_eta (n := 2048) i).symm⟩
  refine (out_col ρ h c j hr).trans (Eq.trans ?_ (block_at2 (Ref.result m' 0) c hr (by omega) j).symm)
  exact (Ref.result_col m' 0 j _).symm

/-- The algebraic claim. -/
theorem algebraic : Cert.algebraic_KernelIdeal_ReferenceIdeal := fun m ρ m' ρ' _ h =>
  ⟨Ref.result m' 0,
    (θ_run KernelIdeal.defs _ _).mono
      (fun _ hr c => ⟨(hr.1 c 1).trans ((finalA_o m ρ c).trans (out_block m ρ m' h c)), (hr.1 c 0).trans (finalA_x m ρ c)⟩) (run_main m ρ),
    (θ_run ReferenceIdeal.defs _ _).mono (fun _ hr => hr 0) (ReferenceIdeal.Value.run m' ρ')⟩

end Cert.PrefixProof

end
-- ==== Proof.lean ====
/-
The five claims, put together: the three runs (Frames), `preserves`, which says nothing more as no operation was replaced, and the
equality of values (Algebraic).
-/
module

public import proofs.«01_k».proof.Defs
public import proofs.«01_k».proof.Proof.Frames
public import proofs.«01_k».proof.Proof.Algebraic

@[expose] public section

noncomputable section

namespace Cert.Proof

/-- Everything that is claimed. -/
theorem claim : Cert.Claim :=
  ⟨Cert.Kernel.Gen.facts, Cert.KernelIdeal.Gen.facts, Cert.ReferenceIdeal.Gen.facts,
    PrefixProof.frame_kernel, PrefixProof.frame_ideal, PrefixProof.frame_reference, trivial, PrefixProof.algebraic⟩

end Cert.Proof

end
